-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "slope1" .f32 0x3F3504F3#32 (((Real.sqrt 2)⁻¹ : ℝ) : EReal)
  ∧ IdealRules.named_const.Statement Cert.KernelIdeal.κ "slope3" .f32 0x3EB504F3#32 (((Real.sqrt 8)⁻¹ : ℝ) : EReal)
  ∧ IdealRules.named_const.Statement Cert.KernelIdeal.κ "slope5" .f32 0x3E3504F3#32 (((Real.sqrt 32)⁻¹ : ℝ) : EReal)
  ∧ IdealRules.named_const.Statement Cert.KernelIdeal.κ "slope7" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_5)) (v5 : (c : Dev Cert.Kernel5Ideal.nD) → Buf (Elt Ideal) ((c.tc : Thread Cert.Kernel5Ideal.nD Cert.Kernel5Ideal.τ).loc Cert.Kernel5Ideal.main_v33_8)) (v6 : (c : Dev Cert.Kernel5Ideal.nD) → Buf (Elt Ideal) ((c.tc : Thread Cert.Kernel5Ideal.nD Cert.Kernel5Ideal.τ).loc Cert.Kernel5Ideal.main_v33_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_5) = v4 c
          ∧ r.2.mem ((c.tc : Thread Cert.Kernel5Ideal.nD Cert.Kernel5Ideal.τ).loc Cert.Kernel5Ideal.main_v33_8) = v5 c
          ∧ r.2.mem ((c.tc : Thread Cert.Kernel5Ideal.nD Cert.Kernel5Ideal.τ).loc Cert.Kernel5Ideal.main_v33_9) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v59) = v3 c
          ∧ r.2.mem ((c.tc : Thread Cert.Reference5Ideal.nD Cert.Reference5Ideal.τ).loc Cert.Reference5Ideal.main_v60) = v4 c
          ∧ r.2.mem ((c.tc : Thread Cert.Reference5Ideal.nD Cert.Reference5Ideal.τ).loc Cert.Reference5Ideal.main_v44) = v5 c
          ∧ r.2.mem ((c.tc : Thread Cert.Reference5Ideal.nD Cert.Reference5Ideal.τ).loc Cert.Reference5Ideal.main_v52) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8192x8x64 : Shape := ⟨4, ![4, 8192, 8, 64]⟩
abbrev S4x8192x2x64 : Shape := ⟨4, ![4, 8192, 2, 64]⟩
abbrev S8 : Shape := ⟨1, ![8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x8192x8x64 .f32) (main_arg1 : FVec F S4x8192x2x64 .f32) (main_arg2 : FVec F S4x8192x2x64 .f32) (main_arg3 : FVec F S8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x8192x8x64 : Shape := ⟨4, ![4, 8192, 8, 64]⟩
abbrev S4x8192x2x64 : Shape := ⟨4, ![4, 8192, 2, 64]⟩
abbrev S8 : Shape := ⟨1, ![8]⟩
abbrev S_ : Shape := ⟨0, ![]⟩
abbrev S4x64x128x8x64 : Shape := ⟨5, ![4, 64, 128, 8, 64]⟩
abbrev S4x64x64x8x128 : Shape := ⟨5, ![4, 64, 64, 8, 128]⟩
abbrev S4x64x64x1024 : Shape := ⟨4, ![4, 64, 64, 1024]⟩
abbrev S4x64x128x1024 : Shape := ⟨4, ![4, 64, 128, 1024]⟩
abbrev S4x8192x2x128 : Shape := ⟨4, ![4, 8192, 2, 128]⟩
abbrev S4x8192x256 : Shape := ⟨3, ![4, 8192, 256]⟩
abbrev S4x64x128x128 : Shape := ⟨4, ![4, 64, 128, 128]⟩
abbrev S4x8192x512 : Shape := ⟨3, ![4, 8192, 512]⟩
abbrev S1x2x128x1024 : Shape := ⟨4, ![1, 2, 128, 1024]⟩
abbrev S1x128x256 : Shape := ⟨3, ![1, 128, 256]⟩
abbrev S1x256x256 : Shape := ⟨3, ![1, 256, 256]⟩
abbrev S1x1x128x128 : Shape := ⟨4, ![1, 1, 128, 128]⟩
abbrev S1x2x128x128 : Shape := ⟨4, ![1, 2, 128, 128]⟩
abbrev S1x256x512 : Shape := ⟨3, ![1, 256, 512]⟩
abbrev S128x256 : Shape := ⟨2, ![128, 256]⟩
abbrev S128x128 : Shape := ⟨2, ![128, 128]⟩
abbrev S1x1x128x1024 : Shape := ⟨4, ![1, 1, 128, 1024]⟩
abbrev S128x1024 : Shape := ⟨2, ![128, 1024]⟩
abbrev S256x128 : Shape := ⟨2, ![256, 128]⟩
abbrev S128x512 : Shape := ⟨2, ![128, 512]⟩
abbrev S256x512 : Shape := ⟨2, ![256, 512]⟩
abbrev S1 : Shape := ⟨1, ![1]⟩
abbrev S128 : Shape := ⟨1, ![128]⟩
abbrev S1x128 : Shape := ⟨2, ![1, 128]⟩
abbrev S64x128 : Shape := ⟨2, ![64, 128]⟩
abbrev S64x256 : Shape := ⟨2, ![64, 256]⟩
abbrev S64x512 : Shape := ⟨2, ![64, 512]⟩
abbrev S1x128x512 : Shape := ⟨3, ![1, 128, 512]⟩

abbrev nBuf : Space → Nat
  | .hbm => 23
  | .vmem => 12
  | .smem => 1
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8, .f32⟩
  | .hbm, ⟨4, _⟩ => ⟨S_, .f32⟩
  | .hbm, ⟨5, _⟩ => ⟨S4x8192x8x64, .f32⟩
  | .hbm, ⟨6, _⟩ => ⟨S4x8192x8x64, .f32⟩
  | .hbm, ⟨7, _⟩ => ⟨S4x64x128x8x64, .f32⟩
  | .hbm, ⟨8, _⟩ => ⟨S4x64x64x8x128, .f32⟩
  | .hbm, ⟨9, _⟩ => ⟨S4x64x64x1024, .f32⟩
  | .hbm, ⟨10, _⟩ => ⟨S_, .i32⟩
  | .hbm, ⟨11, _⟩ => ⟨S_, .f32⟩
  | .hbm, ⟨12, _⟩ => ⟨S4x64x128x1024, .f32⟩
  | .hbm, ⟨13, _⟩ => ⟨S4x64x128x1024, .bf16⟩
  | .hbm, ⟨14, _⟩ => ⟨S_, .i32⟩
  | .hbm, ⟨15, _⟩ => ⟨S_, .f32⟩
  | .hbm, ⟨16, _⟩ => ⟨S4x8192x2x128, .f32⟩
  | .hbm, ⟨17, _⟩ => ⟨S4x8192x256, .f32⟩
  | .hbm, ⟨18, _⟩ => ⟨S4x8192x256, .bf16⟩
  | .hbm, ⟨19, _⟩ => ⟨S4x64x128x128, .f32⟩
  | .hbm, ⟨20, _⟩ => ⟨S4x64x128x128, .f32⟩
  | .hbm, ⟨21, _⟩ => ⟨S4x64x128x128, .bf16⟩
  | .hbm, ⟨22, _⟩ => ⟨S4x8192x512, .bf16⟩
  | .local _ .vmem, ⟨0, _⟩ => ⟨S1x2x128x1024, .bf16⟩
  | .local _ .vmem, ⟨1, _⟩ => ⟨S1x2x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x2x128x128, .bf16⟩
  | .local _ .vmem, ⟨9, _⟩ => ⟨S1x2x128x128, .bf16⟩
  | .local _ .vmem, ⟨10, _⟩ => ⟨S1x256x512, .bf16⟩
  | .local _ .vmem, ⟨11, _⟩ => ⟨S1x256x512, .bf16⟩
  | .local _ .smem, ⟨0, _⟩ => ⟨S8, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg" => some ⊥
  | "slope1" => some (((Real.sqrt 2)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | _ => none
-- ==== ReferenceIdeal.lean ====
abbrev S4x8192x8x64 : Shape := ⟨4, ![4, 8192, 8, 64]⟩
abbrev S4x8192x2x64 : Shape := ⟨4, ![4, 8192, 2, 64]⟩
abbrev S8 : Shape := ⟨1, ![8]⟩
abbrev S16 : Shape := ⟨1, ![16]⟩
abbrev S_ : Shape := ⟨0, ![]⟩
abbrev S4x64x128x2x4x64 : Shape := ⟨6, ![4, 64, 128, 2, 4, 64]⟩
abbrev S4x64x128x2x64 : Shape := ⟨5, ![4, 64, 128, 2, 64]⟩
abbrev S4x65x128x2x64 : Shape := ⟨5, ![4, 65, 128, 2, 64]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x4 : Shape := ⟨2, ![2, 4]⟩
abbrev S1x1x2x4x1x1 : Shape := ⟨6, ![1, 1, 2, 4, 1, 1]⟩
abbrev S1x1x1x1x128x256 : Shape := ⟨6, ![1, 1, 1, 1, 128, 256]⟩
abbrev S1x1x2x4x128x256 : Shape := ⟨6, ![1, 1, 2, 4, 128, 256]⟩
abbrev S1x64x1x1x128x256 : Shape := ⟨6, ![1, 64, 1, 1, 128, 256]⟩
abbrev S4x64x2x4x128 : Shape := ⟨5, ![4, 64, 2, 4, 128]⟩
abbrev S4x64x2x4x128x1 : Shape := ⟨6, ![4, 64, 2, 4, 128, 1]⟩
abbrev S4x64x2x64x4x128 : Shape := ⟨6, ![4, 64, 2, 64, 4, 128]⟩
abbrev S4x8192x512 : Shape := ⟨3, ![4, 8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S8, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8, .f32⟩
  | .hbm, ⟨18, _⟩ => ⟨S4x64x128x2x4x64, .f32⟩
  | .hbm, ⟨19, _⟩ => ⟨S4x64x128x2x64, .f32⟩
  | .hbm, ⟨20, _⟩ => ⟨S4x64x128x2x64, .f32⟩
  | .hbm, ⟨21, _⟩ => ⟨S_, .i32⟩
  | .hbm, ⟨22, _⟩ => ⟨S_, .f32⟩
  | .hbm, ⟨23, _⟩ => ⟨S4x65x128x2x64, .f32⟩
  | .hbm, ⟨24, _⟩ => ⟨S4x64x128x2x64, .f32⟩
  | .hbm, ⟨25, _⟩ => ⟨S4x64x256x2x64, .f32⟩
  | .hbm, ⟨26, _⟩ => ⟨S_, .i32⟩
  | .hbm, ⟨27, _⟩ => ⟨S_, .f32⟩
  | .hbm, ⟨28, _⟩ => ⟨S4x65x128x2x64, .f32⟩
  | .hbm, ⟨29, _⟩ => ⟨S4x64x128x2x64, .f32⟩
  | .hbm, ⟨30, _⟩ => ⟨S4x64x256x2x64, .f32⟩
  | .hbm, ⟨31, _⟩ => ⟨S4x64x2x256x128x4, .f32⟩
  | .hbm, ⟨32, _⟩ => ⟨S4x64x2x4x128x256, .f32⟩
  | .hbm, ⟨33, _⟩ => ⟨S_, .f32⟩
  | .hbm, ⟨34, _⟩ => ⟨S4x64x2x4x128x256, .f32⟩
  | .hbm, ⟨35, _⟩ => ⟨S4x64x2x4x128x256, .f32⟩
  | .hbm, ⟨36, _⟩ => ⟨S128, .i32⟩
  | .hbm, ⟨37, _⟩ => ⟨S256, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S1x256, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S64, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S1x256, .i32⟩
  | .hbm, ⟨55, _⟩ => ⟨S64x256, .i32⟩
  | .hbm, ⟨56, _⟩ => ⟨S64x256, .i32⟩
  | .hbm, ⟨57, _⟩ => ⟨S64x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .i32⟩
  | .hbm, ⟨67, _⟩ => ⟨S64x256, .i32⟩
  | .hbm, ⟨68, _⟩ => ⟨S64x256, .i1⟩
  | .hbm, ⟨69, _⟩ => ⟨S64x1x256, .i1⟩
  | .hbm, ⟨70, _⟩ => ⟨S64x128x256, .i1⟩
  | .hbm, ⟨71, _⟩ => ⟨S64x128x256, .i1⟩
  | .hbm, ⟨72, _⟩ => ⟨S64x128x256, .i1⟩
  | .hbm, ⟨73, _⟩ => ⟨S2x4, .f32⟩
  | .hbm, ⟨74, _⟩ => ⟨S1x1x2x4x1x1, .f32⟩
  | .hbm, ⟨75, _⟩ => ⟨S128x256, .f32⟩
  | .hbm, ⟨76, _⟩ => ⟨S1x1x1x1x128x256, .f32⟩
  | .hbm, ⟨77, _⟩ => ⟨S1x1x2x4x128x256, .f32⟩
  | .hbm, ⟨78, _⟩ => ⟨S1x1x2x4x128x256, .f32⟩
  | .hbm, ⟨79, _⟩ => ⟨S1x1x2x4x128x256, .f32⟩
  | .hbm, ⟨80, _⟩ => ⟨S4x64x2x4x128x256, .f32⟩
  | .hbm, ⟨81, _⟩ => ⟨S4x64x2x4x128x256, .f32⟩
  | .hbm, ⟨82, _⟩ => ⟨S1x64x1x1x128x256, .i1⟩
  | .hbm, ⟨83, _⟩ => ⟨S_, .f32⟩
  | .hbm, ⟨84, _⟩ => ⟨S_, .f32⟩
  | .hbm, ⟨85, _⟩ => ⟨S4x64x2x4x128x256, .i1⟩
  | .hbm, ⟨86, _⟩ => ⟨S4x64x2x4x128x256, .f32⟩
  | .hbm, ⟨87, _⟩ => ⟨S4x64x2x4x128x256, .f32⟩
  | .hbm, ⟨88, _⟩ => ⟨S2x4, .f32⟩
  | .hbm, ⟨89, _⟩ => ⟨S1x1x2x4x1x1, .f32⟩
  | .hbm, ⟨90, _⟩ => ⟨S_, .f32⟩
  | .hbm, ⟨91, _⟩ => ⟨S4x64x2x4x128, .f32⟩
  | .hbm, ⟨92, _⟩ => ⟨S4x64x2x4x128x1, .f32⟩
  | .hbm, ⟨93, _⟩ => ⟨S4x64x2x4x128x1, .f32⟩
  | .hbm, ⟨94, _⟩ => ⟨S4x64x2x4x128x1, .f32⟩
  | .hbm, ⟨95, _⟩ => ⟨S4x64x2x4x128x256, .f32⟩
  | .hbm, ⟨96, _⟩ => ⟨S4x64x2x4x128x256, .f32⟩
  | .hbm, ⟨97, _⟩ => ⟨S4x64x2x4x128x256, .f32⟩
  | .hbm, ⟨98, _⟩ => ⟨S_, .f32⟩
  | .hbm, ⟨99, _⟩ => ⟨S4x64x2x4x128, .f32⟩
  | .hbm, ⟨100, _⟩ => ⟨S4x64x2x4x128x1, .f32⟩
  | .hbm, ⟨101, _⟩ => ⟨S4x64x2x4x128x1, .f32⟩
  | .hbm, ⟨102, _⟩ => ⟨S4x64x2x4x128x1, .f32⟩
  | .hbm, ⟨103, _⟩ => ⟨S4x64x2x4x128x1, .f32⟩
  | .hbm, ⟨104, _⟩ => ⟨S4x64x2x4x128x1, .f32⟩
  | .hbm, ⟨105, _⟩ => ⟨S4x64x2x4x128x256, .f32⟩
  | .hbm, ⟨106, _⟩ => ⟨S4x64x2x4x128x256, .f32⟩
  | .hbm, ⟨107, _⟩ => ⟨S4x64x2x64x4x128, .f32⟩
  | .hbm, ⟨108, _⟩ => ⟨S4x64x128x2x4x64, .f32⟩
  | .hbm, ⟨109, _⟩ => ⟨S4x8192x512, .f32⟩
  | .hbm, ⟨110, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024x5632 : Shape := ⟨2, ![1024, 5632]⟩
abbrev S2816x1024 : Shape := ⟨2, ![2816, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S32768x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1024x5632, .f32⟩
  | .hbm, ⟨22, _⟩ => ⟨S2816x1024, .f32⟩
  | .hbm, ⟨23, _⟩ => ⟨S4x8192x5632, .f32⟩
  | .hbm, ⟨24, _⟩ => ⟨S4x8192x2816, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x8192x2048 : Shape := ⟨3, ![4, 8192, 2048]⟩
abbrev S1x512x1024 : Shape := ⟨3, ![1, 512, 1024]⟩
abbrev S1x1024x1024 : Shape := ⟨3, ![1, 1024, 1024]⟩
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024x512 : Shape := ⟨2, ![1024, 512]⟩
abbrev S1024x2048 : Shape := ⟨2, ![1024, 2048]⟩

abbrev nBuf : Space → Nat
  | .hbm => 18
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S32768x1024, .f32⟩
  | .hbm, ⟨8, _⟩ => ⟨S32768x512, .bf16⟩
  | .hbm, ⟨9, _⟩ => ⟨S32768x512, .bf16⟩
  | .hbm, ⟨10, _⟩ => ⟨S32768x2048, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .f32⟩
  | .local _ .vmem, ⟨7, _⟩ => ⟨S1024x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x8192x512 : Shape := ⟨3, ![4, 8192, 512]⟩
abbrev S4x8192x2048 : Shape := ⟨3, ![4, 8192, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S32768x1024 : Shape := ⟨2, ![32768, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S4x8192x512, .f32⟩
  | .hbm, ⟨8, _⟩ => ⟨S4x8192x512, .f32⟩
  | .hbm, ⟨9, _⟩ => ⟨S4x8192x1024, .f32⟩
  | .hbm, ⟨10, _⟩ => ⟨S4x8192x1024, .f32⟩
  | .hbm, ⟨11, _⟩ => ⟨S512x1024, .f32⟩
  | .hbm, ⟨12, _⟩ => ⟨S4x8192x1024, .f32⟩
  | .hbm, ⟨13, _⟩ => ⟨S4x8192x1024, .f32⟩
  | .hbm, ⟨14, _⟩ => ⟨S512x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S1024x1024, .f32⟩
  | .hbm, ⟨19, _⟩ => ⟨S4x8192x1024, .f32⟩
  | .hbm, ⟨20, _⟩ => ⟨S4x8192x1024, .f32⟩
  | .hbm, ⟨21, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x4x8192x256 : Shape := ⟨4, ![1, 4, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S32768x1024 : Shape := ⟨2, ![32768, 1024]⟩
abbrev S4x8192x256 : Shape := ⟨3, ![4, 8192, 256]⟩
abbrev S32768x256 : Shape := ⟨2, ![32768, 256]⟩
abbrev S1024x1024 : Shape := ⟨2, ![1024, 1024]⟩
abbrev S256x1024 : Shape := ⟨2, ![256, 1024]⟩
abbrev S1024x256 : Shape := ⟨2, ![1024, 256]⟩
abbrev S1024x1 : Shape := ⟨2, ![1024, 1]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1x4x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S32768x1024, .f32⟩
  | .hbm, ⟨7, _⟩ => ⟨S4x8192x256, .f32⟩
  | .hbm, ⟨8, _⟩ => ⟨S32768x256, .f32⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x8192x1024 : Shape := ⟨3, ![4, 8192, 1024]⟩
abbrev S1x4x8192x256 : Shape := ⟨4, ![1, 4, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S4x8192x256 : Shape := ⟨3, ![4, 8192, 256]⟩
abbrev S256x1024 : Shape := ⟨2, ![256, 1024]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x4x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S4x8192x256, .f32⟩
  | .hbm, ⟨34, _⟩ => ⟨S256x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S4x8192x1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S4x8192x1024 : Shape := ⟨3, ![4, 8192, 1024]⟩
abbrev S1x1024 : Shape := ⟨2, ![1, 1024]⟩
abbrev S1x1024x4040 : Shape := ⟨3, ![1, 1024, 4040]⟩
abbrev S32768x1024 : Shape := ⟨2, ![32768, 1024]⟩
abbrev S1024x4040 : Shape := ⟨2, ![1024, 4040]⟩
abbrev S1024x512 : Shape := ⟨2, ![1024, 512]⟩
abbrev S_ : Shape := ⟨0, ![]⟩
abbrev S1024x128 : Shape := ⟨2, ![1024, 128]⟩
abbrev S1024x64 : Shape := ⟨2, ![1024, 64]⟩
abbrev S1024x8 : Shape := ⟨2, ![1024, 8]⟩
abbrev S1024x2048 : Shape := ⟨2, ![1024, 2048]⟩
abbrev S1024x256 : Shape := ⟨2, ![1024, 256]⟩
abbrev S256x128x1024 : Shape := ⟨3, ![256, 128, 1024]⟩
abbrev S32768x256 : Shape := ⟨2, ![32768, 256]⟩
abbrev S256x128x128 : Shape := ⟨3, ![256, 128, 128]⟩
abbrev S32768x128 : Shape := ⟨2, ![32768, 128]⟩
abbrev S32768x2048 : Shape := ⟨2, ![32768, 2048]⟩
abbrev S256x1024 : Shape := ⟨2, ![256, 1024]⟩
abbrev S2x128x1024 : Shape := ⟨3, ![2, 128, 1024]⟩
abbrev S256x256 : Shape := ⟨2, ![256, 256]⟩
abbrev S2x128x128 : Shape := ⟨3, ![2, 128, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S64x128 : Shape := ⟨2, ![64, 128]⟩
abbrev S128x128 : Shape := ⟨2, ![128, 128]⟩
abbrev S1x128x128 : Shape := ⟨3, ![1, 128, 128]⟩

abbrev nBuf : Space → Nat
  | .hbm => 52
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4040, .f32⟩
  | .hbm, ⟨3, _⟩ => ⟨S32768x1024, .f32⟩
  | .hbm, ⟨4, _⟩ => ⟨S1024x4040, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x64, .f32⟩
  | .hbm, ⟨16, _⟩ => ⟨S1024x64, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x64, .f32⟩
  | .hbm, ⟨22, _⟩ => ⟨S1024x8, .f32⟩
  | .hbm, ⟨23, _⟩ => ⟨S1024x2048, .f32⟩
  | .hbm, ⟨24, _⟩ => ⟨S_, .f32⟩
  | .hbm, ⟨25, _⟩ => ⟨S1024x64, .f32⟩
  | .hbm, ⟨26, _⟩ => ⟨S1024x512, .bf16⟩
  | .hbm, ⟨27, _⟩ => ⟨S1024x64, .f32⟩
  | .hbm, ⟨28, _⟩ => ⟨S1024x64, .f32⟩
  | .hbm, ⟨29, _⟩ => ⟨S1024x256, .f32⟩
  | .hbm, ⟨30, _⟩ => ⟨S1024x256, .bf16⟩
  | .hbm, ⟨31, _⟩ => ⟨S1024x512, .bf16⟩
  | .hbm, ⟨32, _⟩ => ⟨S1024x512, .bf16⟩
  | .hbm, ⟨33, _⟩ => ⟨S1024x256, .f32⟩
  | .hbm, ⟨34, _⟩ => ⟨S1024x256, .bf16⟩
  | .hbm, ⟨35, _⟩ => ⟨S1024x256, .f32⟩
  | .hbm, ⟨36, _⟩ => ⟨S1024x256, .bf16⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1024x128, .bf16⟩
  | .hbm, ⟨41, _⟩ => ⟨S1024x2048, .bf16⟩
  | .hbm, ⟨42, _⟩ => ⟨S256x128x1024, .bf16⟩
  | .hbm, ⟨43, _⟩ => ⟨S32768x256, .bf16⟩
  | .hbm, ⟨44, _⟩ => ⟨S256x128x128, .bf16⟩
  | .hbm, ⟨45, _⟩ => ⟨S256x128x1024, .bf16⟩
  | .hbm, ⟨46, _⟩ => ⟨S256x128x1024, .bf16⟩
  | .hbm, ⟨47, _⟩ => ⟨S32768x128, .bf16⟩
  | .hbm, ⟨48, _⟩ => ⟨S32768x128, .bf16⟩
  | .hbm, ⟨49, _⟩ => ⟨S256x128x128, .bf16⟩
  | .hbm, ⟨50, _⟩ => ⟨S32768x128, .f32⟩
  | .hbm, ⟨51, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x512, .bf16⟩
  | .local _ .vmem, ⟨6, _⟩ => ⟨S1024x512, .bf16⟩
  | .local _ .vmem, ⟨7, _⟩ => ⟨S1024x256, .bf16⟩
  | .local _ .vmem, ⟨8, _⟩ => ⟨S1024x256, .bf16⟩
  | .local _ .vmem, ⟨9, _⟩ => ⟨S1024x128, .bf16⟩
  | .local _ .vmem, ⟨10, _⟩ => ⟨S1024x2048, .bf16⟩
  | .local _ .vmem, ⟨11, _⟩ => ⟨S2x128x1024, .bf16⟩
  | .local _ .vmem, ⟨12, _⟩ => ⟨S2x128x1024, .bf16⟩
  | .local _ .vmem, ⟨13, _⟩ => ⟨S256x256, .bf16⟩
  | .local _ .vmem, ⟨14, _⟩ => ⟨S256x256, .bf16⟩
  | .local _ .vmem, ⟨15, _⟩ => ⟨S2x128x128, .bf16⟩
  | .local _ .vmem, ⟨16, _⟩ => ⟨S2x128x128, .bf16⟩
  | .local _ .vmem, ⟨17, _⟩ => ⟨S2x128x1024, .bf16⟩
  | .local _ .vmem, ⟨18, _⟩ => ⟨S2x128x1024, .bf16⟩
  | .local _ .vmem, ⟨19, _⟩ => ⟨S2x128x1024, .bf16⟩
  | .local _ .vmem, ⟨20, _⟩ => ⟨S2x128x1024, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S2x128x128, .bf16⟩
  | .local _ .vmem, ⟨26, _⟩ => ⟨S2x128x128, .bf16⟩
  | .local _ .vmem, ⟨27, _⟩ => ⟨S256x128, .f32⟩
  | .local _ .vmem, ⟨28, _⟩ => ⟨S256x128, .f32⟩
  | .local _ .vmem, ⟨29, _⟩ => ⟨S256x2048, .f32⟩
  | .local _ .vmem, ⟨30, _⟩ => ⟨S256x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v33_6 : Ref sig .tc := ⟨.hbm, 48, rfl⟩
abbrev main_v33_7 : Ref sig .tc := ⟨.hbm, 49, rfl⟩
abbrev main_v33_8 : Ref sig .tc := ⟨.hbm, 50, rfl⟩
abbrev main_v33_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S4x8192x1024 : Shape := ⟨3, ![4, 8192, 1024]⟩
abbrev S1x1024 : Shape := ⟨2, ![1, 1024]⟩
abbrev S1x1024x4040 : Shape := ⟨3, ![1, 1024, 4040]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4040 : Shape := ⟨2, ![1024, 4040]⟩
abbrev S4x8192x4040 : Shape := ⟨3, ![4, 8192, 4040]⟩
abbrev S4x8192x512 : Shape := ⟨3, ![4, 8192, 512]⟩
abbrev S4x8192x128 : Shape := ⟨3, ![4, 8192, 128]⟩
abbrev S4x8192x64 : Shape := ⟨3, ![4, 8192, 64]⟩
abbrev S4x8192x8 : Shape := ⟨3, ![4, 8192, 8]⟩
abbrev S256x128x8x64 : Shape := ⟨4, ![256, 128, 8, 64]⟩
abbrev S256x64x8x128 : Shape := ⟨4, ![256, 64, 8, 128]⟩
abbrev S256x128x8x128 : Shape := ⟨4, ![256, 128, 8, 128]⟩
abbrev S32768x2x64 : Shape := ⟨3, ![32768, 2, 64]⟩
abbrev S32768x2x128 : Shape := ⟨3, ![32768, 2, 128]⟩
abbrev S32768x64 : Shape := ⟨2, ![32768, 64]⟩
abbrev S32768x128 : Shape := ⟨2, ![32768, 128]⟩
abbrev S256x128x128 : Shape := ⟨3, ![256, 128, 128]⟩
abbrev S32768x8 : Shape := ⟨2, ![32768, 8]⟩
abbrev S4x8192x2048 : Shape := ⟨3, ![4, 8192, 2048]⟩
abbrev S32768x2048 : Shape := ⟨2, ![32768, 2048]⟩
abbrev S256x128x1024 : Shape := ⟨3, ![256, 128, 1024]⟩
abbrev S32768x256 : Shape := ⟨2, ![32768, 256]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4040, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x4040, .f32⟩
  | .hbm, ⟨21, _⟩ => ⟨S4x8192x4040, .f32⟩
  | .hbm, ⟨22, _⟩ => ⟨S4x8192x512, .f32⟩
  | .hbm, ⟨23, _⟩ => ⟨S4x8192x128, .f32⟩
  | .hbm, ⟨24, _⟩ => ⟨S4x8192x128, .f32⟩
  | .hbm, ⟨25, _⟩ => ⟨S4x8192x512, .f32⟩
  | .hbm, ⟨26, _⟩ => ⟨S4x8192x64, .f32⟩
  | .hbm, ⟨27, _⟩ => ⟨S4x8192x64, .f32⟩
  | .hbm, ⟨28, _⟩ => ⟨S4x8192x512, .f32⟩
  | .hbm, ⟨29, _⟩ => ⟨S4x8192x64, .f32⟩
  | .hbm, ⟨30, _⟩ => ⟨S4x8192x8, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192x512, .f32⟩
  | .hbm, ⟨35, _⟩ => ⟨S4x8192x512, .f32⟩
  | .hbm, ⟨36, _⟩ => ⟨S256x128x8x64, .f32⟩
  | .hbm, ⟨37, _⟩ => ⟨S256x64x8x128, .f32⟩
  | .hbm, ⟨38, _⟩ => ⟨S_, .i32⟩
  | .hbm, ⟨39, _⟩ => ⟨S_, .f32⟩
  | .hbm, ⟨40, _⟩ => ⟨S256x128x8x128, .f32⟩
  | .hbm, ⟨41, _⟩ => ⟨S_, .f32⟩
  | .hbm, ⟨42, _⟩ => ⟨S4x8192x512, .f32⟩
  | .hbm, ⟨43, _⟩ => ⟨S4x8192x512, .f32⟩
  | .hbm, ⟨44, _⟩ => ⟨S256x128x8x64, .f32⟩
  | .hbm, ⟨45, _⟩ => ⟨S256x64x8x128, .f32⟩
  | .hbm, ⟨46, _⟩ => ⟨S_, .i32⟩
  | .hbm, ⟨47, _⟩ => ⟨S_, .f32⟩
  | .hbm, ⟨48, _⟩ => ⟨S256x128x8x128, .f32⟩
  | .hbm, ⟨49, _⟩ => ⟨S32768x2x64, .f32⟩
  | .hbm, ⟨50, _⟩ => ⟨S_, .i32⟩
  | .hbm, ⟨51, _⟩ => ⟨S_, .f32⟩
  | .hbm, ⟨52, _⟩ => ⟨S32768x2x128, .f32⟩
  | .hbm, ⟨53, _⟩ => ⟨S32768x64, .f32⟩
  | .hbm, ⟨54, _⟩ => ⟨S_, .i32⟩
  | .hbm, ⟨55, _⟩ => ⟨S_, .f32⟩
  | .hbm, ⟨56, _⟩ => ⟨S32768x128, .f32⟩
  | .hbm, ⟨57, _⟩ => ⟨S256x128x128, .f32⟩
  | .hbm, ⟨58, _⟩ => ⟨S256x128x128, .f32⟩
  | .hbm, ⟨59, _⟩ => ⟨S32768x8, .f32⟩
  | .hbm, ⟨60, _⟩ => ⟨S_, .i32⟩
  | .hbm, ⟨61, _⟩ => ⟨S_, .f32⟩
  | .hbm, ⟨62, _⟩ => ⟨S32768x128, .f32⟩
  | .hbm, ⟨63, _⟩ => ⟨S4x8192x2048, .f32⟩
  | .hbm, ⟨64, _⟩ => ⟨S4x8192x2048, .f32⟩
  | .hbm, ⟨65, _⟩ => ⟨S4x8192x2048, .f32⟩
  | .hbm, ⟨66, _⟩ => ⟨S_, .f32⟩
  | .hbm, ⟨67, _⟩ => ⟨S4x8192x2048, .f32⟩
  | .hbm, ⟨68, _⟩ => ⟨S4x8192x2048, .f32⟩
  | .hbm, ⟨69, _⟩ => ⟨S_, .f32⟩
  | .hbm, ⟨70, _⟩ => ⟨S4x8192x2048, .f32⟩
  | .hbm, ⟨71, _⟩ => ⟨S4x8192x2048, .f32⟩
  | .hbm, ⟨72, _⟩ => ⟨S32768x2048, .f32⟩
  | .hbm, ⟨73, _⟩ => ⟨S256x128x1024, .f32⟩
  | .hbm, ⟨74, _⟩ => ⟨S256x128x1024, .bf16⟩
  | .hbm, ⟨75, _⟩ => ⟨S32768x256, .f32⟩
  | .hbm, ⟨76, _⟩ => ⟨S32768x256, .bf16⟩
  | .hbm, ⟨77, _⟩ => ⟨S256x128x128, .bf16⟩
  | .hbm, ⟨78, _⟩ => ⟨S256x128x1024, .f32⟩
  | .hbm, ⟨79, _⟩ => ⟨S256x128x1024, .bf16⟩
  | .hbm, ⟨80, _⟩ => ⟨S32768x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_call0_v0 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_call1_v0 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_call2_v0 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_call3_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_call4_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.Rows.lean ====
/-
  The row functions the projections of the layer are made of, over extended reals: the mean-square normalised row,
  the gated product of a feed-forward row, and the index of a token row of the flattened token axis. Each kernel and each
  reference is read in these words.
-/
module

public import Idealize.ShloMosaic.Lib.Pointwise
public import Idealize.ShloMosaic.Lib.ValueIdx
public import Idealize.ShloMosaic.Lib.Pipeline.Value

@[expose] public section

noncomputable section

namespace Cert.Proof.Rows

open Idealize.ShloMosaic
open scoped BigOperators

/-- The word of `1.0` is one, -/
theorem ofBits_one : Ideal.ofBits .f32 0x3F800000#32 = 1 := by
  simp [Ideal.ofBits, Ideal.ieee, -EReal.coe_mul]; norm_num

/-- and the word of `0.0` is zero. -/
theorem ofBits_zero : Ideal.ofBits .f32 0x00000000#32 = 0 := by simp [Ideal.ofBits, Ideal.ieee]

/-- The reciprocal root mean square of a row of 1024 numbers, the two constants as the programs write them. -/
def invRms (x : Fin 1024 → EReal) : EReal :=
  Ideal.rsqrt (Ideal.div (∑ d, x d * x d) (Ideal.ofBits .f32 0x44800000#32) + Ideal.ofBits .f32 0x358637BD#32)

/-- A row normalised by its root mean square and scaled by the gain `g`. -/
def rms (x g : Fin 1024 → EReal) (d : Fin 1024) : EReal := x d * invRms x * g d

/-- `a · σ(a)`. -/
def silu (a : EReal) : EReal := a * Ideal.logistic a

/-- A row times a matrix. -/
def rowMul {K N : Nat} (x : Fin K → EReal) (w : Fin K → Fin N → EReal) (n : Fin N) : EReal := ∑ k, x k * w k n

/-- The half-step feed-forward of one token's row. -/
def ffn (x g : Fin 1024 → EReal) (wa wb : Fin 1024 → Fin 2816 → EReal) (wo : Fin 2816 → Fin 1024 → EReal)
    (n : Fin 1024) : EReal :=
  x n + Ideal.ofBits .f32 0x3F000000#32 *
    rowMul (fun k => silu (rowMul (rms x g) wa k) * rowMul (rms x g) wb k) wo n

/-- The two mixers' rows `ya`, `yb` projected, gated by the two halves `ga`, `gb` of the gates, added, projected and added to
    the residual row `h`. -/
def merge (h : Fin 1024 → EReal) (ya yb : Fin 512 → EReal) (ga gb : Fin 1024 → EReal)
    (wa wb : Fin 512 → Fin 1024 → EReal) (wo : Fin 1024 → Fin 1024 → EReal) (n : Fin 1024) : EReal :=
  h n + rowMul (fun k => ga k * rowMul ya wa k + gb k * rowMul yb wb k) wo n

/-- The per-layer embedding row `p` projected, gated by the normalised residual row's own projection, and added to it. -/
def gated (h : Fin 1024 → EReal) (p : Fin 256 → EReal) (g : Fin 1024 → EReal) (wg : Fin 1024 → Fin 1024 → EReal)
    (wp : Fin 256 → Fin 1024 → EReal) (n : Fin 1024) : EReal :=
  h n + Ideal.logistic (rowMul (rms h g) wg n) * rowMul p wp n

/-- The batch and the time of a row of the flattened token axis. -/
def bat (r : Nat) (h : r < 32768) : Fin 4 := ⟨r / 8192, by omega⟩
def tim (r : Nat) : Fin 8192 := ⟨r % 8192, Nat.mod_lt _ (by decide)⟩

/-- The index a reshape of the flattened token axis reads, from its coordinates as the row-major number's quotients. -/
theorem flat_idx (i : (⟨2, ![32768, 1024]⟩ : Shape).Idx) (j : (⟨3, ![4, 8192, 1024]⟩ : Shape).Idx)
    (h0 : (j 0).val = ((i 0).val * 1024 + (i 1).val) / 8388608)
    (h1 : (j 1).val = ((i 0).val * 1024 + (i 1).val) / 1024 % 8192)
    (h2 : (j 2).val = ((i 0).val * 1024 + (i 1).val) % 1024) :
    j = Idealize.ShloMosaic.ix3 (bat (i 0).val (i 0).isLt) (tim (i 0).val) (i 1) := by
  have hi0 : (i 0).val < 32768 := (i 0).isLt
  have hi1 : (i 1).val < 1024 := (i 1).isLt
  funext a
  refine Fin.ext ?_
  match a with
  | ⟨0, _⟩ => show (j 0).val = (i 0).val / 8192; omega
  | ⟨1, _⟩ => show (j 1).val = (i 0).val % 8192; omega
  | ⟨2, _⟩ => show (j 2).val = (i 1).val; omega

end Cert.Proof.Rows

end
-- ==== Proof.Ffn.lean ====
/-
  The feed-forward call: the RMS norm of a token, the gated product of two projections, the projection back, half added.
-/
module

public import proofs.«01_k».proof.Proof.Rows
public import proofs.«01_k».proof.Proof.Gen.Kernel2Ideal.Value
public import proofs.«01_k».proof.Proof.Gen.Reference2Ideal.Read
public import proofs.«01_k».proof.Defs

@[expose] public section

noncomputable section

namespace Cert.Proof.Ffn

open Idealize.ShloMosaic Idealize.ShloMosaic.TcCoe Idealize.SL.Sem Cert.Proof.Rows
open scoped BigOperators

section Ref
open Cert.Reference2Ideal Cert.Reference2Ideal.Read

/-- The reference's row before the flattening of the token axis. -/
theorem ref_apply (x : S4x8192x1024.Idx → EReal) (g : S1x1024.Idx → EReal) (wi : S1x1024x5632.Idx → EReal)
    (wo : S1x2816x1024.Idx → EReal) (b : Fin 4) (t : Fin 8192) (n : Fin 1024) :
    val_main_v24 (F := Ideal) x g wi wo (ix3 b t n)
      = ffn (fun d => x (ix3 b t d)) (fun d => g (ix2 0 d)) (fun k j => wi (ix3 0 k ⟨j.val, by omega⟩))
          (fun k j => wi (ix3 0 k ⟨2816 + j.val, by omega⟩)) (fun k j => wo (ix3 0 k j)) n := by
  pointwise [val_main_v24, val_main_v23, val_main_v22, val_main_cst_2, val_main_v21, val_main_v20, val_main_v19, val_main_v18, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0, val_main_call0_v5, val_main_call0_v4, val_main_call0_cst_0, val_main_call0_v3, val_main_call0_v2, val_main_call0_cst, val_main_call0_v1, val_main_call0_v0]
  rfl

/-- The same over the flattened token axis, the array the program returns. -/
theorem ref_result (x : S4x8192x1024.Idx → EReal) (g : S1x1024.Idx → EReal) (wi : S1x1024x5632.Idx → EReal)
    (wo : S1x2816x1024.Idx → EReal) :
    val_main_v25 (F := Ideal) x g wi wo = fun i : S32768x1024.Idx =>
      ffn (fun d => x (ix3 (bat (i 0).val (i 0).isLt) (tim (i 0).val) d)) (fun d => g (ix2 0 d))
        (fun k j => wi (ix3 0 k ⟨j.val, by omega⟩)) (fun k j => wi (ix3 0 k ⟨2816 + j.val, by omega⟩))
        (fun k j => wo (ix3 0 k j)) (i 1) := by
  funext i
  exact (val_main_v25_apply (F := Ideal) x g wi wo i).trans ((congrArg (val_main_v24 (F := Ideal) x g wi wo)
    (flat_idx i (idx_main_v25 i) rfl rfl rfl)).trans (ref_apply x g wi wo _ _ _))

end Ref

section Ker
open Cert.Kernel2Ideal Cert.Kernel2Ideal.Gen

/-- The block the body stores, at an index. -/
theorem pay_apply (x : S512x1024.Idx → EReal) (g : S1x1024.Idx → EReal) (wa wb : S1024x2816.Idx → EReal)
    (wo : S2816x1024.Idx → EReal) (r : Fin 512) (n : Fin 1024) :
    k0_pay1 (F := Ideal) x g wa wb wo (ix2 r n)
      = ffn (fun d => x (ix2 r d)) (fun d => g (ix2 0 d)) (fun k j => wa (ix2 k j))
          (fun k j => wb (ix2 k j)) (fun k j => wo (ix2 k j)) n := by
  unfold_payloads
  pointwise
  rfl

variable (m : (ℓ : Loc nD τ sig) → Buf (Elt Ideal) ℓ) (c : Dev nD)

/-- The four arguments of device `c`. -/
abbrev X : S4x8192x1024.Idx → EReal := m ((c : Thread nD τ).loc main_arg0)
abbrev G : S1x1024.Idx → EReal := m ((c : Thread nD τ).loc main_arg1)
abbrev WI : S1x1024x5632.Idx → EReal := m ((c : Thread nD τ).loc main_arg2)
abbrev WO : S1x2816x1024.Idx → EReal := m ((c : Thread nD τ).loc main_arg3)

/-- The arrays the host hands to the call, element by element. -/
theorem V_v0 (r : Fin 32768) (d : Fin 1024) :
    V m c main_v0 (ix2 r d) = X m c (ix3 (bat r.val r.isLt) (tim r.val) d) := by
  have e : (V m c main_v0 : S32768x1024.Idx → EReal)
      = shapeCast S32768x1024 (X m c) shapeCasts_S4x8192x1024_S32768x1024 := by
    show StableHlo.after hostOps0 _ _ = _
    after_results_simp <;> rfl
  rw [e]
  pointwise
  rfl

theorem V_v2 (k : Fin 1024) (j : Fin 5632) :
    V m c main_v2 (ix2 k j) = WI m c (ix3 0 k j) := by
  have e : (V m c main_v2 : S1024x5632.Idx → EReal)
      = shapeCast S1024x5632 (WI m c) shapeCasts_S1x1024x5632_S1024x5632 := by
    show StableHlo.after hostOps0 _ _ = _
    after_results_simp <;> rfl
  rw [e]
  pointwise

theorem V_v4 (k : Fin 2816) (j : Fin 1024) :
    V m c main_v4 (ix2 k j) = WO m c (ix3 0 k j) := by
  have e : (V m c main_v4 : S2816x1024.Idx → EReal)
      = shapeCast S2816x1024 (WO m c) shapeCasts_S1x2816x1024_S2816x1024 := by
    show StableHlo.after hostOps0 _ _ = _
    after_results_simp <;> rfl
  rw [e]
  pointwise

/-- Where each window stands at a grid point. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 1)
    ∧ (win0_4.index t 0 = 0 ∧ win0_4.index t 1 = 0) ∧ (win0_5.index t 0 = t.val ∧ win0_5.index t 1 = 0) :=
  (by decide +kernel : ∀ t : Fin grid0.N, _)

/-- There are 64 points. -/
theorem t_lt (t : Fin cfg0.N) : t.val < 64 := lt_of_lt_of_eq t.isLt (by decide +kernel)

/-- A row of point `t`'s block in the flattened token axis. -/
def row (t : Fin cfg0.N) (r : Fin 512) : Fin 32768 := ⟨t.val * 512 + r.val, by have := t_lt t; omega⟩

/-! The blocks a point reads, out of the arguments. -/

theorem iblk_0 (t : Fin cfg0.N) (r : Fin 512) (d : Fin 1024) :
    iblk m c 0 t (ix2 r d) = X m c (ix3 (bat (row t r).val (row t r).isLt) (tim (row t r).val) d) := by
  refine (congrArg (V m c main_v0) (funext fun a => Fin.ext ?_)).trans (V_v0 m c (row t r) d)
  match a with
  | ⟨0, _⟩ => show win0_0.index t 0 * 512 + 1 * r.val = t.val * 512 + r.val; rw [(idx_facts t).1.1]; omega
  | ⟨1, _⟩ => show win0_0.index t 1 * 1024 + 1 * d.val = d.val; rw [(idx_facts t).1.2]; omega

theorem iblk_1 (t : Fin cfg0.N) (d : Fin 1024) : iblk m c 1 t (ix2 0 d) = G m c (ix2 0 d) := by
  refine (congrArg (V m c main_arg1) (funext fun a => Fin.ext ?_)).trans (congrFun (V_main_arg1 m c) _)
  match a with
  | ⟨0, _⟩ => show win0_1.index t 0 * 1 + 1 * 0 = 0; rw [(idx_facts t).2.1.1]
  | ⟨1, _⟩ => show win0_1.index t 1 * 1024 + 1 * d.val = d.val; rw [(idx_facts t).2.1.2]; omega

theorem iblk_2 (t : Fin cfg0.N) (k : Fin 1024) (j : Fin 2816) :
    iblk m c 2 t (ix2 k j) = WI m c (ix3 0 k (⟨j.val, by omega⟩ : Fin 5632)) := by
  refine (congrArg (V m c main_v2) (funext fun a => Fin.ext ?_)).trans (V_v2 m c k ⟨j.val, by omega⟩)
  match a with
  | ⟨0, _⟩ => show win0_2.index t 0 * 1024 + 1 * k.val = k.val; rw [(idx_facts t).2.2.1.1]; omega
  | ⟨1, _⟩ => show win0_2.index t 1 * 2816 + 1 * j.val = j.val; rw [(idx_facts t).2.2.1.2]; omega

theorem iblk_3 (t : Fin cfg0.N) (k : Fin 1024) (j : Fin 2816) :
    iblk m c 3 t (ix2 k j) = WI m c (ix3 0 k (⟨2816 + j.val, by omega⟩ : Fin 5632)) := by
  refine (congrArg (V m c main_v2) (funext fun a => Fin.ext ?_)).trans (V_v2 m c k ⟨2816 + j.val, by omega⟩)
  match a with
  | ⟨0, _⟩ => show win0_3.index t 0 * 1024 + 1 * k.val = k.val; rw [(idx_facts t).2.2.2.1.1]; omega
  | ⟨1, _⟩ => show win0_3.index t 1 * 2816 + 1 * j.val = 2816 + j.val; rw [(idx_facts t).2.2.2.1.2]; omega

theorem iblk_4 (t : Fin cfg0.N) (k : Fin 2816) (j : Fin 1024) :
    iblk m c 4 t (ix2 k j) = WO m c (ix3 0 k j) := by
  refine (congrArg (V m c main_v4) (funext fun a => Fin.ext ?_)).trans (V_v4 m c k j)
  match a with
  | ⟨0, _⟩ => show win0_4.index t 0 * 2816 + 1 * k.val = k.val; rw [(idx_facts t).2.2.2.2.1.1]; omega
  | ⟨1, _⟩ => show win0_4.index t 1 * 1024 + 1 * j.val = j.val; rw [(idx_facts t).2.2.2.2.1.2]; omega

/-- The feed-forward of every token, over the flattened token axis: what the result array ends holding. -/
def result : S32768x1024.Idx → EReal := fun i =>
  ffn (fun d => X m c (ix3 (bat (i 0).val (i 0).isLt) (tim (i 0).val) d)) (fun d => G m c (ix2 0 d))
    (fun k j => WI m c (ix3 0 k ⟨j.val, by omega⟩)) (fun k j => WI m c (ix3 0 k ⟨2816 + j.val, by omega⟩))
    (fun k j => WO m c (ix3 0 k j)) (i 1)

theorem hz : (![0, 0] : Fin 2 → Nat) = fun _ => 0 := funext fun a => by fin_cases a <;> rfl

/-- What point `t` writes back is block `t` of that array. -/
theorem flushed_eq (t : Fin cfg0.N) :
    (dats m 0 c).flushed 5 t = (win0_5.blk t).view.read (Elt Ideal) (result m c) := by
  rw [Value.flushed5]
  unfold out0_5
  rw [View.canon_unit_zero hz, View.ld_unit_zero hz, View.ld_unit_zero hz, View.ld_unit_zero hz, View.ld_unit_zero hz,
    View.ld_unit_zero hz]
  funext y
  obtain ⟨r, n, rfl⟩ : ∃ (r : Fin 512) (n : Fin 1024), y = ix2 r n := ⟨y 0, y 1, eq_ix2 y⟩
  show k0_pay1 (F := Ideal) (iblk m c 0 t) (iblk m c 1 t) (iblk m c 2 t) (iblk m c 3 t) (iblk m c 4 t) (ix2 r n)
    = result m c ((win0_5.blk t).view.emb (ix2 r n))
  have he : (win0_5.blk t).view.emb (ix2 r n) = (ix2 (row t r) n : S32768x1024.Idx) := funext fun a => Fin.ext (by
    match a with
    | ⟨0, _⟩ => show win0_5.index t 0 * 512 + 1 * r.val = t.val * 512 + r.val; rw [(idx_facts t).2.2.2.2.2.1]; omega
    | ⟨1, _⟩ => show win0_5.index t 1 * 1024 + 1 * n.val = n.val; rw [(idx_facts t).2.2.2.2.2.2]; omega)
  rw [he, pay_apply]
  simp only [iblk_0, iblk_1, iblk_2, iblk_3, iblk_4]
  rfl

/-- An index is in a point's block when each coordinate is. -/
theorem mem_blk (t : Fin cfg0.N) (i : S32768x1024.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v5).slice (win0_5.rect t)).set ↔ _
  rw [View.set_slice_whole, Rect.mem_set_unit]

/-- The 64 blocks cover the array. -/
theorem cover (i : S32768x1024.Idx) :
    ∃ t : Fin cfg0.N, (cfg0.win 5).flush t = true ∧ i ∈ ((cfg0.win 5).blk t).view.set := by
  have h0 : (i 0 : Nat) < 32768 := (i 0).isLt
  have h1 : (i 1 : Nat) < 1024 := (i 1).isLt
  have hN : cfg0.N = 64 := by decide +kernel
  refine ⟨⟨(i 0 : Nat) / 512, by omega⟩, flush0_5 _, ?_⟩
  rw [mem_blk]
  have hf := (idx_facts ⟨(i 0 : Nat) / 512, by omega⟩).2.2.2.2.2
  intro a
  match a with
  | ⟨0, _⟩ => show win0_5.index _ 0 * 512 ≤ (i 0 : Nat) ∧ (i 0 : Nat) < win0_5.index _ 0 * 512 + 512
              rw [hf.1]; dsimp only; omega
  | ⟨1, _⟩ => show win0_5.index _ 1 * 1024 ≤ (i 1 : Nat) ∧ (i 1 : Nat) < win0_5.index _ 1 * 1024 + 1024
              rw [hf.2]; omega

/-- So the result array ends holding `result`. -/
theorem final : (dats m 0 c).arrAt 5 cfg0.N = result m c :=
  (dats m 0 c).arrAt_eq_of_cover 5 (result m c) (fun t _ => flushed_eq m c t) cover

end Ker

/-- The value claim of the feed-forward call: kernel and reference end with equal arrays. -/
theorem value : Cert.algebraic_Kernel2Ideal_Reference2Ideal := by
  intro m g m' g' _ hagree
  refine ⟨fun c => result m c, (θ_run _ _ _).mono (fun _ h c => ?_) (Cert.Kernel2Ideal.Value.run_blocks m g),
    (θ_run _ _ _).mono (fun _ h c => ?_) (Cert.Reference2Ideal.Value.run m' g')⟩
  · exact ⟨(h c).1.trans (final m c), (h c).2⟩
  · refine ⟨(h c).1.trans ?_, (h c).2⟩
    rw [Cert.Reference2Ideal.Read.val_main_v25_eq, (hagree c).1, (hagree c).2.1, (hagree c).2.2.1, (hagree c).2.2.2]
    exact ref_result _ _ _ _

end Cert.Proof.Ffn

end
-- ==== Proof.Merge.lean ====
/-
  The call that joins the two mixers: the kernel's result array and the reference's are, row by row, the function
  `Rows.merge` of the arguments' rows.
-/
module

public import proofs.«01_k».proof.Proof.Rows
public import proofs.«01_k».proof.Proof.Gen.Kernel3Ideal.Value
public import proofs.«01_k».proof.Proof.Gen.Reference3Ideal.Run
public import proofs.«01_k».proof.Proof.Gen.Reference3Ideal.Read
public import proofs.«01_k».proof.Defs

@[expose] public section

noncomputable section

namespace Cert.Proof.Merge

open Idealize.ShloMosaic Idealize.ShloMosaic.TcCoe Idealize.SL.Sem Cert.Proof.Rows
open scoped BigOperators

section Ref
open Cert.Reference3Ideal Cert.Reference3Ideal.Read

variable (h : S4x8192x1024.Idx → EReal) (ya yb : S4x8192x512.Idx → EReal) (g : S4x8192x2048.Idx → EReal)
  (wa wb : S1x512x1024.Idx → EReal) (wo : S1x1024x1024.Idx → EReal)

/-- The joined row of one token, out of the seven arguments. -/
def rowOf (b : Fin 4) (t : Fin 8192) (n : Fin 1024) : EReal :=
  merge (fun d => h (ix3 b t d)) (fun d => ya (ix3 b t d)) (fun d => yb (ix3 b t d))
    (fun d => g (ix3 b t ⟨d.val, by omega⟩)) (fun d => g (ix3 b t ⟨1024 + d.val, by omega⟩))
    (fun k j => wa (ix3 0 k j)) (fun k j => wb (ix3 0 k j)) (fun k j => wo (ix3 0 k j)) n

/-- The reference's row before the flattening of the token axis. -/
theorem ref_apply (b : Fin 4) (t : Fin 8192) (n : Fin 1024) :
    val_main_v13 (F := Ideal) h ya yb g wa wb wo (ix3 b t n) = rowOf h ya yb g wa wb wo b t n := by
  pointwise [val_main_v13, val_main_v12, val_main_v11, val_main_v10, val_main_v9, val_main_v8, val_main_v7, val_main_v6,
    val_main_v5, val_main_v4, val_main_v3, val_main_v2, val_main_v1, val_main_v0]
  rfl

/-- The reference's result array. -/
theorem ref_result : val_main_v14 (F := Ideal) h ya yb g wa wb wo = fun i : S32768x1024.Idx =>
    rowOf h ya yb g wa wb wo (bat (i 0).val (i 0).isLt) (tim (i 0).val) (i 1) := by
  funext i
  exact (val_main_v14_apply (F := Ideal) h ya yb g wa wb wo i).trans ((congrArg (val_main_v13 (F := Ideal) h ya yb g wa wb wo)
    (flat_idx i (idx_main_v14 i) rfl rfl rfl)).trans (ref_apply h ya yb g wa wb wo _ _ _))

end Ref

section Ker
open Cert.Kernel3Ideal Cert.Kernel3Ideal.Gen

/-- The block the body stores, at an index. -/
theorem pay_apply (ya : S1024x512.Idx → EReal) (wa : S512x1024.Idx → EReal) (yb : S1024x512.Idx → EReal)
    (wb : S512x1024.Idx → EReal) (g : S1024x2048.Idx → EReal) (h wo : S1024x1024.Idx → EReal) (r n : Fin 1024) :
    k0_pay1 (F := Ideal) ya wa yb wb g h wo (ix2 r n)
      = merge (fun d => h (ix2 r d)) (fun d => ya (ix2 r d)) (fun d => yb (ix2 r d))
          (fun d => g (ix2 r ⟨d.val, by omega⟩)) (fun d => g (ix2 r ⟨1024 + d.val, by omega⟩))
          (fun k j => wa (ix2 k j)) (fun k j => wb (ix2 k j)) (fun k j => wo (ix2 k j)) n := by
  unfold_payloads
  pointwise
  rfl

variable (m : (ℓ : Loc nD τ sig) → Buf (Elt Ideal) ℓ) (c : Dev nD)

/-- The seven arguments of device `c`. -/
abbrev H : S4x8192x1024.Idx → EReal := m ((c : Thread nD τ).loc main_arg0)
abbrev YA : S4x8192x512.Idx → EReal := m ((c : Thread nD τ).loc main_arg1)
abbrev YB : S4x8192x512.Idx → EReal := m ((c : Thread nD τ).loc main_arg2)
abbrev GT : S4x8192x2048.Idx → EReal := m ((c : Thread nD τ).loc main_arg3)
abbrev WA : S1x512x1024.Idx → EReal := m ((c : Thread nD τ).loc main_arg4)
abbrev WB : S1x512x1024.Idx → EReal := m ((c : Thread nD τ).loc main_arg5)
abbrev WO : S1x1024x1024.Idx → EReal := m ((c : Thread nD τ).loc main_arg6)

/-! The arrays the host hands to the call, element by element. -/

theorem V_v0 (r : Fin 32768) (d : Fin 1024) :
    V m c main_v0 (ix2 r d) = H m c (ix3 (bat r.val r.isLt) (tim r.val) d) := by
  have e : (V m c main_v0 : S32768x1024.Idx → EReal)
      = shapeCast S32768x1024 (H m c) shapeCasts_S4x8192x1024_S32768x1024 := by
    show StableHlo.after hostOps0 _ _ = _
    after_results_simp <;> rfl
  rw [e]; pointwise; rfl

theorem V_v1 (r : Fin 32768) (d : Fin 512) :
    V m c main_v1 (ix2 r d) = YA m c (ix3 (bat r.val r.isLt) (tim r.val) d) := by
  have e : (V m c main_v1 : S32768x512.Idx → EReal)
      = shapeCast S32768x512 (YA m c) shapeCasts_S4x8192x512_S32768x512 := by
    show StableHlo.after hostOps0 _ _ = _
    after_results_simp <;> rfl
  rw [e]; pointwise; rfl

theorem V_v2 (r : Fin 32768) (d : Fin 512) :
    V m c main_v2 (ix2 r d) = YB m c (ix3 (bat r.val r.isLt) (tim r.val) d) := by
  have e : (V m c main_v2 : S32768x512.Idx → EReal)
      = shapeCast S32768x512 (YB m c) shapeCasts_S4x8192x512_S32768x512 := by
    show StableHlo.after hostOps0 _ _ = _
    after_results_simp <;> rfl
  rw [e]; pointwise; rfl

theorem V_v3 (r : Fin 32768) (d : Fin 2048) :
    V m c main_v3 (ix2 r d) = GT m c (ix3 (bat r.val r.isLt) (tim r.val) d) := by
  have e : (V m c main_v3 : S32768x2048.Idx → EReal)
      = shapeCast S32768x2048 (GT m c) shapeCasts_S4x8192x2048_S32768x2048 := by
    show StableHlo.after hostOps0 _ _ = _
    after_results_simp <;> rfl
  rw [e]; pointwise; rfl

theorem V_v5 (k : Fin 512) (j : Fin 1024) : V m c main_v5 (ix2 k j) = WA m c (ix3 0 k j) := by
  have e : (V m c main_v5 : S512x1024.Idx → EReal)
      = shapeCast S512x1024 (WA m c) shapeCasts_S1x512x1024_S512x1024 := by
    show StableHlo.after hostOps0 _ _ = _
    after_results_simp <;> rfl
  rw [e]; pointwise

theorem V_v7 (k : Fin 512) (j : Fin 1024) : V m c main_v7 (ix2 k j) = WB m c (ix3 0 k j) := by
  have e : (V m c main_v7 : S512x1024.Idx → EReal)
      = shapeCast S512x1024 (WB m c) shapeCasts_S1x512x1024_S512x1024 := by
    show StableHlo.after hostOps0 _ _ = _
    after_results_simp <;> rfl
  rw [e]; pointwise

theorem V_v9 (k : Fin 1024) (j : Fin 1024) : V m c main_v9 (ix2 k j) = WO m c (ix3 0 k j) := by
  have e : (V m c main_v9 : S1024x1024.Idx → EReal)
      = shapeCast S1024x1024 (WO m c) shapeCasts_S1x1024x1024_S1024x1024 := by
    show StableHlo.after hostOps0 _ _ = _
    after_results_simp <;> rfl
  rw [e]; pointwise

/-- Where each window stands at a grid point: the first four and the result at the point's row block, the weights still. -/
theorem idx_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_7.index t 0 = t.val ∧ win0_7.index t 1 = 0) :=
  (by decide +kernel : ∀ t : Fin grid0.N, _)
theorem idx_still : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

theorem N_eq : cfg0.N = 32 := by decide +kernel
theorem t_lt (t : Fin cfg0.N) : t.val < 32 := lt_of_lt_of_eq t.isLt N_eq

/-- A row of point `t`'s block in the flattened token axis. -/
def row (t : Fin cfg0.N) (r : Fin 1024) : Fin 32768 := ⟨t.val * 1024 + r.val, by have := t_lt t; omega⟩

theorem iblk_0 (t : Fin cfg0.N) (r : Fin 1024) (d : Fin 1024) :
    iblk m c 0 t (ix2 r d) = H m c (ix3 (bat (row t r).val (row t r).isLt) (tim (row t r).val) d) := by
  refine (congrArg (V m c main_v0) (funext fun a => Fin.ext ?_)).trans (V_v0 m c (row t r) d)
  match a with
  | ⟨0, _⟩ => show win0_0.index t 0 * 1024 + 1 * r.val = t.val * 1024 + r.val; rw [(idx_rows t).1.1]; omega
  | ⟨1, _⟩ => show win0_0.index t 1 * 1024 + 1 * d.val = d.val; rw [(idx_rows t).1.2]; omega

theorem iblk_1 (t : Fin cfg0.N) (r : Fin 1024) (d : Fin 512) :
    iblk m c 1 t (ix2 r d) = YA m c (ix3 (bat (row t r).val (row t r).isLt) (tim (row t r).val) d) := by
  refine (congrArg (V m c main_v1) (funext fun a => Fin.ext ?_)).trans (V_v1 m c (row t r) d)
  match a with
  | ⟨0, _⟩ => show win0_1.index t 0 * 1024 + 1 * r.val = t.val * 1024 + r.val; rw [(idx_rows t).2.1.1]; omega
  | ⟨1, _⟩ => show win0_1.index t 1 * 512 + 1 * d.val = d.val; rw [(idx_rows t).2.1.2]; omega

theorem iblk_2 (t : Fin cfg0.N) (r : Fin 1024) (d : Fin 512) :
    iblk m c 2 t (ix2 r d) = YB m c (ix3 (bat (row t r).val (row t r).isLt) (tim (row t r).val) d) := by
  refine (congrArg (V m c main_v2) (funext fun a => Fin.ext ?_)).trans (V_v2 m c (row t r) d)
  match a with
  | ⟨0, _⟩ => show win0_2.index t 0 * 1024 + 1 * r.val = t.val * 1024 + r.val; rw [(idx_rows t).2.2.1.1]; omega
  | ⟨1, _⟩ => show win0_2.index t 1 * 512 + 1 * d.val = d.val; rw [(idx_rows t).2.2.1.2]; omega

theorem iblk_3 (t : Fin cfg0.N) (r : Fin 1024) (d : Fin 2048) :
    iblk m c 3 t (ix2 r d) = GT m c (ix3 (bat (row t r).val (row t r).isLt) (tim (row t r).val) d) := by
  refine (congrArg (V m c main_v3) (funext fun a => Fin.ext ?_)).trans (V_v3 m c (row t r) d)
  match a with
  | ⟨0, _⟩ => show win0_3.index t 0 * 1024 + 1 * r.val = t.val * 1024 + r.val; rw [(idx_rows t).2.2.2.1.1]; omega
  | ⟨1, _⟩ => show win0_3.index t 1 * 2048 + 1 * d.val = d.val; rw [(idx_rows t).2.2.2.1.2]; omega

theorem iblk_4 (t : Fin cfg0.N) (k : Fin 512) (j : Fin 1024) : iblk m c 4 t (ix2 k j) = WA m c (ix3 0 k j) := by
  refine (congrArg (V m c main_v5) (funext fun a => Fin.ext ?_)).trans (V_v5 m c k j)
  match a with
  | ⟨0, _⟩ => show win0_4.index t 0 * 512 + 1 * k.val = k.val; rw [(idx_still t).1.1]; omega
  | ⟨1, _⟩ => show win0_4.index t 1 * 1024 + 1 * j.val = j.val; rw [(idx_still t).1.2]; omega

theorem iblk_5 (t : Fin cfg0.N) (k : Fin 512) (j : Fin 1024) : iblk m c 5 t (ix2 k j) = WB m c (ix3 0 k j) := by
  refine (congrArg (V m c main_v7) (funext fun a => Fin.ext ?_)).trans (V_v7 m c k j)
  match a with
  | ⟨0, _⟩ => show win0_5.index t 0 * 512 + 1 * k.val = k.val; rw [(idx_still t).2.1.1]; omega
  | ⟨1, _⟩ => show win0_5.index t 1 * 1024 + 1 * j.val = j.val; rw [(idx_still t).2.1.2]; omega

theorem iblk_6 (t : Fin cfg0.N) (k : Fin 1024) (j : Fin 1024) : iblk m c 6 t (ix2 k j) = WO m c (ix3 0 k j) := by
  refine (congrArg (V m c main_v9) (funext fun a => Fin.ext ?_)).trans (V_v9 m c k j)
  match a with
  | ⟨0, _⟩ => show win0_6.index t 0 * 1024 + 1 * k.val = k.val; rw [(idx_still t).2.2.1]; omega
  | ⟨1, _⟩ => show win0_6.index t 1 * 1024 + 1 * j.val = j.val; rw [(idx_still t).2.2.2]; omega

/-- What the result array ends holding. -/
def result : S32768x1024.Idx → EReal := fun i =>
  rowOf (H m c) (YA m c) (YB m c) (GT m c) (WA m c) (WB m c) (WO m c) (bat (i 0).val (i 0).isLt) (tim (i 0).val) (i 1)

theorem hz : (![0, 0] : Fin 2 → Nat) = fun _ => 0 := funext fun a => by fin_cases a <;> rfl

/-- What point `t` writes back is block `t` of that array. -/
theorem flushed_eq (t : Fin cfg0.N) :
    (dats m 0 c).flushed 7 t = (win0_7.blk t).view.read (Elt Ideal) (result m c) := by
  rw [Value.flushed7]
  unfold out0_7
  rw [View.canon_unit_zero hz]
  rw [View.ld_unit_zero hz, View.ld_unit_zero hz, View.ld_unit_zero hz, View.ld_unit_zero hz, View.ld_unit_zero hz, View.ld_unit_zero hz, View.ld_unit_zero hz]
  funext y
  obtain ⟨r, n, rfl⟩ : ∃ (r : Fin 1024) (n : Fin 1024), y = ix2 r n := ⟨y 0, y 1, eq_ix2 y⟩
  show k0_pay1 (F := Ideal) (iblk m c 1 t) (iblk m c 4 t) (iblk m c 2 t) (iblk m c 5 t) (iblk m c 3 t) (iblk m c 0 t)
    (iblk m c 6 t) (ix2 r n) = result m c ((win0_7.blk t).view.emb (ix2 r n))
  have he : (win0_7.blk t).view.emb (ix2 r n) = (ix2 (row t r) n : S32768x1024.Idx) := funext fun a => Fin.ext (by
    match a with
    | ⟨0, _⟩ => show win0_7.index t 0 * 1024 + 1 * r.val = t.val * 1024 + r.val; rw [(idx_rows t).2.2.2.2.1]; omega
    | ⟨1, _⟩ => show win0_7.index t 1 * 1024 + 1 * n.val = n.val; rw [(idx_rows t).2.2.2.2.2]; omega)
  rw [he, pay_apply]
  simp only [iblk_0, iblk_1, iblk_2, iblk_3, iblk_4, iblk_5, iblk_6]
  rfl

theorem mem_blk (t : Fin cfg0.N) (i : S32768x1024.Idx) :
    i ∈ ((cfg0.win 7).blk t).view.set ↔ ∀ a, win0_7.index t a * win0_7.size a ≤ (i a : Nat)
      ∧ (i a : Nat) < win0_7.index t a * win0_7.size a + win0_7.xsize (grid0.coords t) a := by
  show i ∈ ((View.whole main_v10).slice (win0_7.rect t)).set ↔ _
  rw [View.set_slice_whole, Rect.mem_set_unit]

/-- The 32 blocks cover the array. -/
theorem cover (i : S32768x1024.Idx) :
    ∃ t : Fin cfg0.N, (cfg0.win 7).flush t = true ∧ i ∈ ((cfg0.win 7).blk t).view.set := by
  have h0 : (i 0 : Nat) < 32768 := (i 0).isLt
  have h1 : (i 1 : Nat) < 1024 := (i 1).isLt
  have hN := N_eq
  refine ⟨⟨(i 0 : Nat) / 1024, by omega⟩, flush0_7 _, ?_⟩
  rw [mem_blk]
  have hf := (idx_rows ⟨(i 0 : Nat) / 1024, by omega⟩).2.2.2.2
  intro a
  match a with
  | ⟨0, _⟩ => show win0_7.index _ 0 * 1024 ≤ (i 0 : Nat) ∧ (i 0 : Nat) < win0_7.index _ 0 * 1024 + 1024
              rw [hf.1]; dsimp only; omega
  | ⟨1, _⟩ => show win0_7.index _ 1 * 1024 ≤ (i 1 : Nat) ∧ (i 1 : Nat) < win0_7.index _ 1 * 1024 + 1024
              rw [hf.2]; omega

theorem final : (dats m 0 c).arrAt 7 cfg0.N = result m c :=
  (dats m 0 c).arrAt_eq_of_cover 7 (result m c) (fun t _ => flushed_eq m c t) cover

end Ker

/-- The value claim of the joining call: kernel and reference end with equal arrays. -/
theorem value : Cert.algebraic_Kernel3Ideal_Reference3Ideal := by
  intro m g m' g' _ hagree
  refine ⟨fun c => result m c, (θ_run _ _ _).mono (fun _ h c => ?_) (Cert.Kernel3Ideal.Value.run_blocks m g),
    (θ_run _ _ _).mono (fun _ h c => ?_) (Cert.Reference3Ideal.Value.run m' g')⟩
  · exact ⟨(h c).1.trans (final m c), (h c).2⟩
  · refine ⟨(h c).1.trans ?_, (h c).2⟩
    rw [Cert.Reference3Ideal.Read.val_main_v14_eq, (hagree c).1, (hagree c).2.1, (hagree c).2.2.1, (hagree c).2.2.2.1,
      (hagree c).2.2.2.2.1, (hagree c).2.2.2.2.2.1, (hagree c).2.2.2.2.2.2]
    exact ref_result _ _ _ _ _ _ _

end Cert.Proof.Merge

end
-- ==== Proof.Ple.lean ====
/-
  The call that adds the per-layer embedding and normalises the layer's result: the kernel's result array and the
  reference's are, row by row, `Rows.rms` of `Rows.gated` of the arguments' rows.
-/
module

public import proofs.«01_k».proof.Proof.Rows
public import proofs.«01_k».proof.Proof.Gen.Kernel4Ideal.Value
public import proofs.«01_k».proof.Proof.Gen.Reference4Ideal.Run
public import proofs.«01_k».proof.Proof.Gen.Reference4Ideal.Read
public import proofs.«01_k».proof.Defs

@[expose] public section

noncomputable section

namespace Cert.Proof.Ple

open Idealize.ShloMosaic Idealize.ShloMosaic.TcCoe Idealize.SL.Sem Cert.Proof.Rows
open scoped BigOperators

section Ref
open Cert.Reference4Ideal Cert.Reference4Ideal.Read

variable (h : S4x8192x1024.Idx → EReal) (p : S1x4x8192x256.Idx → EReal) (g : S1x1024.Idx → EReal)
  (wg : S1x1024x1024.Idx → EReal) (wp : S1x256x1024.Idx → EReal) (gf : S1024.Idx → EReal)

/-- The result row of one token, out of the six arguments. -/
def rowOf (b : Fin 4) (t : Fin 8192) (n : Fin 1024) : EReal :=
  rms (gated (fun d => h (ix3 b t d)) (fun d => p (ix4 0 b t d)) (fun d => g (ix2 0 d))
    (fun k j => wg (ix3 0 k j)) (fun k j => wp (ix3 0 k j))) (fun d => gf (ix1 d)) n

/-- The residual row with the gated embedding added, in the reference. -/
theorem ref_gated (b : Fin 4) (t : Fin 8192) (n : Fin 1024) :
    val_main_v26 (F := Ideal) h p g wg wp (ix3 b t n)
      = gated (fun d => h (ix3 b t d)) (fun d => p (ix4 0 b t d)) (fun d => g (ix2 0 d))
          (fun k j => wg (ix3 0 k j)) (fun k j => wp (ix3 0 k j)) n := by
  pointwise [val_main_v26, val_main_v25, val_main_v24, val_main_v23, val_main_v22, val_main_v21, val_main_v20,
    val_main_cst_3, val_main_v19, val_main_v18, val_main_cst_2, val_main_v17, val_main_v16, val_main_v15, val_main_v14,
    val_main_v13, val_main_v12, val_main_v11, val_main_v10, val_main_v9, val_main_v8, val_main_v7, val_main_v6,
    val_main_cst_1, val_main_v5, val_main_v4, val_main_cst_0, val_main_v3, val_main_v2, val_main_cst, val_main_v1,
    val_main_v0]
  rfl

/-- The reference's row before the flattening of the token axis. -/
theorem ref_apply (b : Fin 4) (t : Fin 8192) (n : Fin 1024) :
    val_main_v39 (F := Ideal) h p g wg wp gf (ix3 b t n) = rowOf h p g wg wp gf b t n := by
  pointwise [val_main_v39, val_main_v38, val_main_v37, val_main_v36, val_main_v35, val_main_v34, val_main_v33,
    val_main_v32, val_main_cst_6, val_main_v31, val_main_v30, val_main_cst_5, val_main_v29, val_main_v28, val_main_cst_4,
    val_main_v27]
  simp only [ref_gated]
  rfl

/-- The reference's result array. -/
theorem ref_result : val_main_v40 (F := Ideal) h p g wg wp gf = fun i : S32768x1024.Idx =>
    rowOf h p g wg wp gf (bat (i 0).val (i 0).isLt) (tim (i 0).val) (i 1) := by
  funext i
  exact (val_main_v40_apply (F := Ideal) h p g wg wp gf i).trans ((congrArg (val_main_v39 (F := Ideal) h p g wg wp gf)
    (flat_idx i (idx_main_v40 i) rfl rfl rfl)).trans (ref_apply h p g wg wp gf _ _ _))

end Ref

section Ker
open Cert.Kernel4Ideal Cert.Kernel4Ideal.Gen

/-- The block's residual with the gated embedding added, at an index, -/
theorem pay2_apply (h : S1024x1024.Idx → EReal) (g : S1x1024.Idx → EReal) (wg : S1024x1024.Idx → EReal)
    (p : S1024x256.Idx → EReal) (wp : S256x1024.Idx → EReal) (r n : Fin 1024) :
    k0_pay2 (F := Ideal) h g wg p wp (ix2 r n)
      = gated (fun d => h (ix2 r d)) (fun d => p (ix2 r d)) (fun d => g (ix2 0 d))
          (fun k j => wg (ix2 k j)) (fun k j => wp (ix2 k j)) n := by
  unfold_payloads
  pointwise
  rfl

/-- and the block the body stores. -/
theorem pay_apply (h : S1024x1024.Idx → EReal) (g : S1x1024.Idx → EReal) (wg : S1024x1024.Idx → EReal)
    (p : S1024x256.Idx → EReal) (wp : S256x1024.Idx → EReal) (gf : S1x1024.Idx → EReal) (r n : Fin 1024) :
    k0_pay1 (F := Ideal) (k0_pay2 h g wg p wp) (k0_pay3 gf) (k0_pay4 h g wg p wp) (ix2 r n)
      = rms (gated (fun d => h (ix2 r d)) (fun d => p (ix2 r d)) (fun d => g (ix2 0 d))
          (fun k j => wg (ix2 k j)) (fun k j => wp (ix2 k j))) (fun d => gf (ix2 0 d)) n := by
  pointwise [k0_pay1, k0_pay3, k0_pay4]
  simp only [pay2_apply]
  rfl

variable (m : (ℓ : Loc nD τ sig) → Buf (Elt Ideal) ℓ) (c : Dev nD)

/-- The six arguments of device `c`. -/
abbrev H : S4x8192x1024.Idx → EReal := m ((c : Thread nD τ).loc main_arg0)
abbrev P : S1x4x8192x256.Idx → EReal := m ((c : Thread nD τ).loc main_arg1)
abbrev G : S1x1024.Idx → EReal := m ((c : Thread nD τ).loc main_arg2)
abbrev WG : S1x1024x1024.Idx → EReal := m ((c : Thread nD τ).loc main_arg3)
abbrev WP : S1x256x1024.Idx → EReal := m ((c : Thread nD τ).loc main_arg4)
abbrev GF : S1024.Idx → EReal := m ((c : Thread nD τ).loc main_arg5)

/-! The arrays the host hands to the call, element by element. -/

theorem V_v0 (r : Fin 32768) (d : Fin 1024) :
    V m c main_v0 (ix2 r d) = H m c (ix3 (bat r.val r.isLt) (tim r.val) d) := by
  have e : (V m c main_v0 : S32768x1024.Idx → EReal)
      = shapeCast S32768x1024 (H m c) shapeCasts_S4x8192x1024_S32768x1024 := by
    show StableHlo.after hostOps0 _ _ = _
    after_results_simp <;> rfl
  rw [e]; pointwise; rfl

theorem V_v2 (r : Fin 32768) (d : Fin 256) :
    V m c main_v2 (ix2 r d) = P m c (ix4 0 (bat r.val r.isLt) (tim r.val) d) := by
  have e : (V m c main_v2 : S32768x256.Idx → EReal) = shapeCast S32768x256
      (shapeCast S4x8192x256 (P m c) shapeCasts_S1x4x8192x256_S4x8192x256) shapeCasts_S4x8192x256_S32768x256 := by
    show StableHlo.after hostOps0 _ _ = _
    after_results_simp <;> rfl
  rw [e]; pointwise; rfl

theorem V_v4 (k : Fin 1024) (j : Fin 1024) : V m c main_v4 (ix2 k j) = WG m c (ix3 0 k j) := by
  have e : (V m c main_v4 : S1024x1024.Idx → EReal)
      = shapeCast S1024x1024 (WG m c) shapeCasts_S1x1024x1024_S1024x1024 := by
    show StableHlo.after hostOps0 _ _ = _
    after_results_simp <;> rfl
  rw [e]; pointwise

theorem V_v6 (k : Fin 256) (j : Fin 1024) : V m c main_v6 (ix2 k j) = WP m c (ix3 0 k j) := by
  have e : (V m c main_v6 : S256x1024.Idx → EReal)
      = shapeCast S256x1024 (WP m c) shapeCasts_S1x256x1024_S256x1024 := by
    show StableHlo.after hostOps0 _ _ = _
    after_results_simp <;> rfl
  rw [e]; pointwise

theorem V_v7 (d : Fin 1024) : V m c main_v7 (ix2 0 d) = GF m c (ix1 d) := by
  have e : (V m c main_v7 : S1x1024.Idx → EReal)
      = broadcastInDim S1x1024 ![1] bcast_S1024_S1x1024_1 (GF m c) := by
    show StableHlo.after hostOps0 _ _ = _
    after_results_simp <;> rfl
  rw [e]; pointwise

/-- Where each window stands at a grid point: the two row arrays and the result at the point's row block, the rest still. -/
theorem idx_rows : ∀ t : Fin cfg0.N,
    (win0_0.index t 0 = t.val ∧ win0_0.index t 1 = 0) ∧ (win0_1.index t 0 = t.val ∧ win0_1.index t 1 = 0)
    ∧ (win0_6.index t 0 = t.val ∧ win0_6.index t 1 = 0) :=
  (by decide +kernel : ∀ t : Fin grid0.N, _)
theorem idx_still : ∀ t : Fin cfg0.N,
    (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

theorem N_eq : cfg0.N = 32 := by decide +kernel
theorem t_lt (t : Fin cfg0.N) : t.val < 32 := lt_of_lt_of_eq t.isLt N_eq

/-- A row of point `t`'s block in the flattened token axis. -/
def row (t : Fin cfg0.N) (r : Fin 1024) : Fin 32768 := ⟨t.val * 1024 + r.val, by have := t_lt t; omega⟩

theorem iblk_0 (t : Fin cfg0.N) (r : Fin 1024) (d : Fin 1024) :
    iblk m c 0 t (ix2 r d) = H m c (ix3 (bat (row t r).val (row t r).isLt) (tim (row t r).val) d) := by
  refine (congrArg (V m c main_v0) (funext fun a => Fin.ext ?_)).trans (V_v0 m c (row t r) d)
  match a with
  | ⟨0, _⟩ => show win0_0.index t 0 * 1024 + 1 * r.val = t.val * 1024 + r.val; rw [(idx_rows t).1.1]; omega
  | ⟨1, _⟩ => show win0_0.index t 1 * 1024 + 1 * d.val = d.val; rw [(idx_rows t).1.2]; omega

theorem iblk_1 (t : Fin cfg0.N) (r : Fin 1024) (d : Fin 256) :
    iblk m c 1 t (ix2 r d) = P m c (ix4 0 (bat (row t r).val (row t r).isLt) (tim (row t r).val) d) := by
  refine (congrArg (V m c main_v2) (funext fun a => Fin.ext ?_)).trans (V_v2 m c (row t r) d)
  match a with
  | ⟨0, _⟩ => show win0_1.index t 0 * 1024 + 1 * r.val = t.val * 1024 + r.val; rw [(idx_rows t).2.1.1]; omega
  | ⟨1, _⟩ => show win0_1.index t 1 * 256 + 1 * d.val = d.val; rw [(idx_rows t).2.1.2]; omega

theorem iblk_2 (t : Fin cfg0.N) (d : Fin 1024) : iblk m c 2 t (ix2 0 d) = G m c (ix2 0 d) := by
  refine (congrArg (V m c main_arg2) (funext fun a => Fin.ext ?_)).trans (congrFun (V_main_arg2 m c) _)
  match a with
  | ⟨0, _⟩ => show win0_2.index t 0 * 1 + 1 * 0 = 0; rw [(idx_still t).1.1]
  | ⟨1, _⟩ => show win0_2.index t 1 * 1024 + 1 * d.val = d.val; rw [(idx_still t).1.2]; omega

theorem iblk_3 (t : Fin cfg0.N) (k : Fin 1024) (j : Fin 1024) : iblk m c 3 t (ix2 k j) = WG m c (ix3 0 k j) := by
  refine (congrArg (V m c main_v4) (funext fun a => Fin.ext ?_)).trans (V_v4 m c k j)
  match a with
  | ⟨0, _⟩ => show win0_3.index t 0 * 1024 + 1 * k.val = k.val; rw [(idx_still t).2.1.1]; omega
  | ⟨1, _⟩ => show win0_3.index t 1 * 1024 + 1 * j.val = j.val; rw [(idx_still t).2.1.2]; omega

theorem iblk_4 (t : Fin cfg0.N) (k : Fin 256) (j : Fin 1024) : iblk m c 4 t (ix2 k j) = WP m c (ix3 0 k j) := by
  refine (congrArg (V m c main_v6) (funext fun a => Fin.ext ?_)).trans (V_v6 m c k j)
  match a with
  | ⟨0, _⟩ => show win0_4.index t 0 * 256 + 1 * k.val = k.val; rw [(idx_still t).2.2.1.1]; omega
  | ⟨1, _⟩ => show win0_4.index t 1 * 1024 + 1 * j.val = j.val; rw [(idx_still t).2.2.1.2]; omega

theorem iblk_5 (t : Fin cfg0.N) (d : Fin 1024) : iblk m c 5 t (ix2 0 d) = GF m c (ix1 d) := by
  refine (congrArg (V m c main_v7) (funext fun a => Fin.ext ?_)).trans (V_v7 m c d)
  match a with
  | ⟨0, _⟩ => show win0_5.index t 0 * 1 + 1 * 0 = 0; rw [(idx_still t).2.2.2.1]
  | ⟨1, _⟩ => show win0_5.index t 1 * 1024 + 1 * d.val = d.val; rw [(idx_still t).2.2.2.2]; omega

/-- What the result array ends holding. -/
def result : S32768x1024.Idx → EReal := fun i =>
  rowOf (H m c) (P m c) (G m c) (WG m c) (WP m c) (GF m c) (bat (i 0).val (i 0).isLt) (tim (i 0).val) (i 1)

theorem hz : (![0, 0] : Fin 2 → Nat) = fun _ => 0 := funext fun a => by fin_cases a <;> rfl

/-- What point `t` writes back is block `t` of that array. -/
theorem flushed_eq (t : Fin cfg0.N) :
    (dats m 0 c).flushed 6 t = (win0_6.blk t).view.read (Elt Ideal) (result m c) := by
  rw [Value.flushed6]
  unfold out0_6
  rw [View.canon_unit_zero hz]
  rw [View.ld_unit_zero hz, View.ld_unit_zero hz, View.ld_unit_zero hz, View.ld_unit_zero hz, View.ld_unit_zero hz, View.ld_unit_zero hz]
  funext y
  obtain ⟨r, n, rfl⟩ : ∃ (r : Fin 1024) (n : Fin 1024), y = ix2 r n := ⟨y 0, y 1, eq_ix2 y⟩
  show k0_pay1 (F := Ideal) (k0_pay2 (iblk m c 0 t) (iblk m c 2 t) (iblk m c 3 t) (iblk m c 1 t) (iblk m c 4 t))
    (k0_pay3 (iblk m c 5 t)) (k0_pay4 (iblk m c 0 t) (iblk m c 2 t) (iblk m c 3 t) (iblk m c 1 t) (iblk m c 4 t)) (ix2 r n)
    = result m c ((win0_6.blk t).view.emb (ix2 r n))
  have he : (win0_6.blk t).view.emb (ix2 r n) = (ix2 (row t r) n : S32768x1024.Idx) := funext fun a => Fin.ext (by
    match a with
    | ⟨0, _⟩ => show win0_6.index t 0 * 1024 + 1 * r.val = t.val * 1024 + r.val; rw [(idx_rows t).2.2.1]; omega
    | ⟨1, _⟩ => show win0_6.index t 1 * 1024 + 1 * n.val = n.val; rw [(idx_rows t).2.2.2]; omega)
  rw [he, pay_apply]
  simp only [iblk_0, iblk_1, iblk_2, iblk_3, iblk_4, iblk_5]
  rfl

theorem mem_blk (t : Fin cfg0.N) (i : S32768x1024.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v8).slice (win0_6.rect t)).set ↔ _
  rw [View.set_slice_whole, Rect.mem_set_unit]

/-- The 32 blocks cover the array. -/
theorem cover (i : S32768x1024.Idx) :
    ∃ t : Fin cfg0.N, (cfg0.win 6).flush t = true ∧ i ∈ ((cfg0.win 6).blk t).view.set := by
  have h0 : (i 0 : Nat) < 32768 := (i 0).isLt
  have h1 : (i 1 : Nat) < 1024 := (i 1).isLt
  have hN := N_eq
  refine ⟨⟨(i 0 : Nat) / 1024, by omega⟩, flush0_6 _, ?_⟩
  rw [mem_blk]
  have hf := (idx_rows ⟨(i 0 : Nat) / 1024, by omega⟩).2.2
  intro a
  match a with
  | ⟨0, _⟩ => show win0_6.index _ 0 * 1024 ≤ (i 0 : Nat) ∧ (i 0 : Nat) < win0_6.index _ 0 * 1024 + 1024
              rw [hf.1]; dsimp only; omega
  | ⟨1, _⟩ => show win0_6.index _ 1 * 1024 ≤ (i 1 : Nat) ∧ (i 1 : Nat) < win0_6.index _ 1 * 1024 + 1024
              rw [hf.2]; omega

theorem final : (dats m 0 c).arrAt 6 cfg0.N = result m c :=
  (dats m 0 c).arrAt_eq_of_cover 6 (result m c) (fun t _ => flushed_eq m c t) cover

end Ker

/-- The value claim of the layer's last call: kernel and reference end with equal arrays. -/
theorem value : Cert.algebraic_Kernel4Ideal_Reference4Ideal := by
  intro m g m' g' _ hagree
  refine ⟨fun c => result m c, (θ_run _ _ _).mono (fun _ h c => ?_) (Cert.Kernel4Ideal.Value.run_blocks m g),
    (θ_run _ _ _).mono (fun _ h c => ?_) (Cert.Reference4Ideal.Value.run m' g')⟩
  · exact ⟨(h c).1.trans (final m c), (h c).2⟩
  · refine ⟨(h c).1.trans ?_, (h c).2⟩
    rw [Cert.Reference4Ideal.Read.val_main_v40_eq, (hagree c).1, (hagree c).2.1, (hagree c).2.2.1, (hagree c).2.2.2.1,
      (hagree c).2.2.2.2.1, (hagree c).2.2.2.2.2]
    exact ref_result _ _ _ _ _ _

end Cert.Proof.Ple

end
-- ==== Proof.ProjSpec.lean ====
/-
  The input projection in words of its arguments: one column of it at one token, and the arrangements in which the call
  lays the columns out.
-/
module

public import proofs.«01_k».proof.Proof.Rows

@[expose] public section

noncomputable section

namespace Cert.Proof.Proj

open Idealize.ShloMosaic Cert.Proof.Rows
open scoped BigOperators

variable (h : (⟨3, ![4, 8192, 1024]⟩ : Shape).Idx → EReal) (g : (⟨2, ![1, 1024]⟩ : Shape).Idx → EReal)
  (w : (⟨3, ![1, 1024, 4040]⟩ : Shape).Idx → EReal)

/-- Column `j` of the projection at token `t` of batch `b`. -/
def at_ (b : Fin 4) (t : Fin 8192) (j : Fin 4040) : EReal :=
  rowMul (rms (fun d => h (ix3 b t d)) (fun d => g (ix2 0 d))) (fun k j => w (ix3 0 k j)) j

/-- The same at a row of the flattened token axis. -/
def col (r : Fin 32768) (j : Fin 4040) : EReal := at_ h g w (bat r.val r.isLt) (tim r.val) j

/-- Token `c` of block `b` in the flattened token axis. -/
def tok (b : Fin 256) (c : Fin 128) : Fin 32768 := ⟨b.val * 128 + c.val, by omega⟩

/-- Eight heads of 64 columns from column `off` on, scaled by one eighth and transposed block by block: lane `e` of head `n` at
    token `c` of block `b` stands in row `e`, column `n · 128 + c` of block `b`; the rows from 64 on are zero. -/
def heads (off : Nat) (ho : off + 512 ≤ 4040) : (⟨3, ![256, 128, 1024]⟩ : Shape).Idx → EReal := fun i =>
  have h2 : (i 2).val < 1024 := (i 2).isLt
  if he : (i 1).val < 64 then
    col h g w (tok (i 0) ⟨(i 2).val % 128, by omega⟩) ⟨off + ((i 2).val / 128 * 64 + (i 1).val), by omega⟩
      * Ideal.ofBits .f32 0x3E000000#32
  else 0

/-- The two key heads, each padded with zeros to 128 lanes. -/
def keys : (⟨2, ![32768, 256]⟩ : Shape).Idx → EReal := fun i =>
  have h1 : (i 1).val < 256 := (i 1).isLt
  if he : (i 1).val % 128 < 64 then col h g w (i 0) ⟨512 + ((i 1).val / 128 * 64 + (i 1).val % 128), by omega⟩ else 0

/-- The columns of the two value heads, transposed block by block. -/
def vals : (⟨3, ![256, 128, 128]⟩ : Shape).Idx → EReal := fun i =>
  have h1 : (i 1).val < 128 := (i 1).isLt
  col h g w (tok (i 0) (i 2)) ⟨640 + (i 1).val, by omega⟩

/-- `n` columns from column `off` on, padded with zeros to 128 lanes. -/
def lanes (off n : Nat) (ho : off + n ≤ 4040) : (⟨2, ![32768, 128]⟩ : Shape).Idx → EReal := fun i =>
  if he : (i 1).val < n then col h g w (i 0) ⟨off + (i 1).val, by omega⟩ else 0

/-- The gates: the logistic of the last 2048 columns. -/
def gates : (⟨2, ![32768, 2048]⟩ : Shape).Idx → EReal := fun i =>
  have h1 : (i 1).val < 2048 := (i 1).isLt
  Ideal.logistic (col h g w (i 0) ⟨1992 + (i 1).val, by omega⟩)

/-! The padded arrangements on and off the padding. -/

theorem keys_pos (r : Fin 32768) (j : Fin 256) (hj : j.val % 128 < 64) :
    keys h g w (ix2 r j) = col h g w r ⟨512 + (j.val / 128 * 64 + j.val % 128), by omega⟩ := by
  unfold keys
  split
  · rfl
  · exact absurd hj ‹_›

theorem keys_neg (r : Fin 32768) (j : Fin 256) (hj : ¬ j.val % 128 < 64) : keys h g w (ix2 r j) = 0 := by
  unfold keys
  split
  · exact absurd ‹_› hj
  · rfl

theorem lanes_pos (off n : Nat) (ho : off + n ≤ 4040) (r : Fin 32768) (j : Fin 128) (hj : j.val < n) :
    lanes h g w off n ho (ix2 r j) = col h g w r ⟨off + j.val, by omega⟩ := by
  unfold lanes
  split
  · rfl
  · exact absurd hj ‹_›

theorem lanes_neg (off n : Nat) (ho : off + n ≤ 4040) (r : Fin 32768) (j : Fin 128) (hj : ¬ j.val < n) :
    lanes h g w off n ho (ix2 r j) = 0 := by
  unfold lanes
  split
  · exact absurd ‹_› hj
  · rfl

/-- The padding is zero. -/
theorem pad_zero : FloatOps.sitofp (F := Ideal) .f32 0#32 = (0 : EReal) := by
  show (((0#32 : BitVec 32).toInt : ℝ) : EReal) = 0
  simp

end Cert.Proof.Proj

end
-- ==== Proof.ProjHost.lean ====
/-
  The arrays the host hands to the input projection call, element by element out of the three arguments.
-/
module

public import proofs.«01_k».proof.Proof.ProjSpec
public import proofs.«01_k».proof.Proof.Gen.Kernel5Ideal.Frame
public import Idealize.ShloMosaic.Lib.StableHlo.ReadAt

@[expose] public section

noncomputable section

namespace Cert.Proof.Proj

open Idealize.ShloMosaic Idealize.ShloMosaic.TcCoe Idealize.SL.Sem Cert.Proof.Rows
open Cert.Kernel5Ideal Cert.Kernel5Ideal.Gen

variable (m : (ℓ : Loc nD τ sig) → Buf (Elt Ideal) ℓ) (c : Dev nD)

/-- The three arguments of device `c`. -/
abbrev H : S4x8192x1024.Idx → EReal := m ((c : Thread nD τ).loc main_arg0)
abbrev G : S1x1024.Idx → EReal := m ((c : Thread nD τ).loc main_arg1)
abbrev W : S1x1024x4040.Idx → EReal := m ((c : Thread nD τ).loc main_arg2)

/-- The activations over the flattened token axis. -/
theorem V_v0 (r : Fin 32768) (d : Fin 1024) :
    V m c main_v0 (ix2 r d) = H m c (ix3 (bat r.val r.isLt) (tim r.val) d) := by
  unfold V
  after_reads_at
  rfl

/-- The sliding window's query weights, scaled. -/
theorem V_v19 (k : Fin 1024) (j : Fin 512) :
    V m c main_v19 (ix2 k j) = W m c (ix3 0 k (⟨j.val, by omega⟩ : Fin 4040)) * Ideal.ofBits .f32 0x3E000000#32 := by
  unfold V
  after_reads_at

/-- The indexer's query weights, scaled. -/
theorem V_v24 (k : Fin 1024) (j : Fin 512) :
    V m c main_v24 (ix2 k j) =
      W m c (ix3 0 k (⟨1408 + j.val, by omega⟩ : Fin 4040)) * Ideal.ofBits .f32 0x3E000000#32 := by
  unfold V
  after_reads_at

/-- The sliding window's key weights, each head padded with zeros. -/
theorem V_v23 (k : Fin 1024) (j : Fin 256) :
    V m c main_v23 (ix2 k j) = if hj : j.val % 128 < 64 then
      W m c (ix3 0 k (⟨512 + (j.val / 128 * 64 + j.val % 128), by omega⟩ : Fin 4040)) else 0 := by
  unfold V
  after_reads_at
  by_cases hj : j.val % 128 < 64
  · rw [dif_pos hj]
    split_ifs <;> after_reads_at
    all_goals first
      | omega
      | exact congrArg (fun x => W m c (ix3 0 k x)) (Fin.ext (by dsimp only; omega))
  · rw [dif_neg hj]
    split_ifs <;> after_reads_at
    all_goals omega

/-- The indexer's key weights, padded with zeros: the first 128 columns of the joined keys' weights. -/
theorem V_v27 (k : Fin 1024) (j : Fin 128) :
    V m c main_v27 (ix2 k (⟨j.val, by omega⟩ : Fin 256)) = if hj : j.val < 64 then
      W m c (ix3 0 k (⟨1920 + j.val, by omega⟩ : Fin 4040)) else 0 := by
  unfold V
  after_reads_at
  split_ifs <;> first | omega | after_reads_at

/-- The sliding window's value weights: the last 128 columns of the joined values' weights. -/
theorem V_v29 (k : Fin 1024) (j : Fin 128) :
    V m c main_v29 (ix2 k (⟨128 + j.val, by omega⟩ : Fin 256)) =
      W m c (ix3 0 k (⟨640 + j.val, by omega⟩ : Fin 4040)) := by
  unfold V
  after_reads_at
  split_ifs <;> first | omega | after_reads_at
  exact congrArg (fun x => W m c (ix3 0 k x)) (Fin.ext (by dsimp only; omega))

/-- The indexer's head weights, padded with zeros. -/
theorem V_v31 (k : Fin 1024) (j : Fin 128) :
    V m c main_v31 (ix2 k j) = if hj : j.val < 8 then W m c (ix3 0 k (⟨1984 + j.val, by omega⟩ : Fin 4040)) else 0 := by
  unfold V
  after_reads_at
  exact dite_congr rfl (fun h => rfl) (fun _ => pad_zero)

/-- The gates' weights. -/
theorem V_v32 (k : Fin 1024) (j : Fin 2048) :
    V m c main_v32 (ix2 k j) = W m c (ix3 0 k (⟨1992 + j.val, by omega⟩ : Fin 4040)) := by
  unfold V
  after_reads_at

end Cert.Proof.Proj

end
-- ==== Proof.ProjKer.lean ====
/-
  The blocks the input projection's body stores, element by element out of the blocks it reads.
-/
module

public import proofs.«01_k».proof.Proof.ProjSpec
public import proofs.«01_k».proof.Proof.Gen.Kernel5Ideal.Frame

@[expose] public section

noncomputable section

namespace Cert.Proof.Proj

open Idealize.ShloMosaic Idealize.ShloMosaic.TcCoe Idealize.SL.Sem Cert.Proof.Rows
open Cert.Kernel5Ideal Cert.Kernel5Ideal.Gen
open scoped BigOperators

section Columns
variable (x : S256x1024.Idx → EReal) (g : S1x1024.Idx → EReal)

/-- Row `r` of a block of tokens, normalised. -/
def unit (r : Fin 256) : Fin 1024 → EReal := rms (fun d => x (ix2 r d)) (fun d => g (ix2 0 d))

/-- The normalised block. -/
theorem unit_apply (r : Fin 256) (k : Fin 1024) : k0_pay2 (F := Ideal) x g (ix2 r k) = unit x g r k := by
  unfold_payloads
  pointwise
  rfl

/-- The sliding window's keys. -/
theorem keys_apply (w : S1024x256.Idx → EReal) (r : Fin 256) (j : Fin 256) :
    k0_pay3 (F := Ideal) x g w (ix2 r j) = rowMul (unit x g r) (fun k j => w (ix2 k j)) j := by
  unfold k0_pay3
  pointwise [unit_apply]
  rfl

/-- The indexer's head weights. -/
theorem heads_apply (w : S1024x128.Idx → EReal) (r : Fin 256) (j : Fin 128) :
    k0_pay4 (F := Ideal) x g w (ix2 r j) = rowMul (unit x g r) (fun k j => w (ix2 k j)) j := by
  unfold k0_pay4
  pointwise [unit_apply]
  rfl

/-- The gates. -/
theorem gates_apply (w : S1024x2048.Idx → EReal) (r : Fin 256) (j : Fin 2048) :
    k0_pay5 (F := Ideal) x g w (ix2 r j) = Ideal.logistic (rowMul (unit x g r) (fun k j => w (ix2 k j)) j) := by
  unfold k0_pay5
  pointwise [unit_apply]
  rfl

/-- The indexer's keys: the first 128 columns of the joined keys. -/
theorem lanes_apply (w : S1024x256.Idx → EReal) (r : Fin 256) (j : Fin 128) :
    k0_pay9 (F := Ideal) (k0_pay2 x g) w (ix2 r j)
      = rowMul (unit x g r) (fun k j => w (ix2 k j)) (⟨j.val, by omega⟩ : Fin 256) := by
  unfold k0_pay9 k0_pay8
  pointwise [unit_apply]
  rfl

/-- The values of the block's first 128 tokens, transposed: the last 128 columns of the joined values. -/
theorem valsA_apply (w : S1024x256.Idx → EReal) (e c : Fin 128) :
    k0_pay19 (F := Ideal) (k0_pay2 x g) w (ix3 0 e c)
      = rowMul (unit x g ⟨c.val, by omega⟩) (fun k j => w (ix2 k j)) (⟨128 + e.val, by omega⟩ : Fin 256) := by
  unfold k0_pay19 k0_pay13 k0_pay11
  pointwise [unit_apply]
  rfl

/-- The values of the block's last 128 tokens, transposed. -/
theorem valsB_apply (w : S1024x256.Idx → EReal) (e c : Fin 128) :
    k0_pay73 (F := Ideal) (k0_pay13 (k0_pay2 x g) w) (ix3 0 e c)
      = rowMul (unit x g ⟨128 + c.val, by omega⟩) (fun k j => w (ix2 k j)) (⟨128 + e.val, by omega⟩ : Fin 256) := by
  unfold k0_pay73 k0_pay13 k0_pay11
  pointwise [unit_apply]
  rfl

/-- The product that gives the sliding window's eight heads of queries. -/
theorem queries_apply (w : S1024x512.Idx → EReal) (r : Fin 256) (j : Fin 512) :
    k0_pay14 (F := Ideal) (k0_pay2 x g) w (ix2 r j) = rowMul (unit x g r) (fun k j => w (ix2 k j)) j := by
  unfold k0_pay14
  pointwise [unit_apply]
  rfl

/-- The product that gives the indexer's eight heads of queries. -/
theorem queries'_apply (w : S1024x512.Idx → EReal) (r : Fin 256) (j : Fin 512) :
    k0_pay15 (F := Ideal) (k0_pay2 x g) w (ix2 r j) = rowMul (unit x g r) (fun k j => w (ix2 k j)) j := by
  unfold k0_pay15
  pointwise [unit_apply]
  rfl

end Columns

/-- One head at one block of 128 tokens: its 64 columns transposed, over 64 rows of zeros. Its tokens start at row `a` of `A`,
    its columns at `b + o`. -/
def piece (A : FVec Ideal S256x512 .f32) (a b o : Nat) (h1 : S256x512.Slices ![a, b] S128x128) (h2 : S128x128.Slices ![o, 0] S64x128) :
    FVec Ideal S1x128x128 .bf16 :=
  shapeCast S1x128x128 (truncf .bf16 (concatenate S128x128 0 [⟨S64x128, extractStridedSlice S64x128 ![o, 0]
    (transpose S128x128 [1, 0] (extractStridedSlice S128x128 ![a, b] A h1) transposes_S128x128_p1_0_S128x128) h2⟩,
    ⟨S64x128, k0_pay17 (F := Ideal)⟩] concatenates_S64x128_S64x128_S128x128_d0) bitsLt_bf16_f32) shapeCasts_S128x128_S1x128x128

theorem piece_apply (A : FVec Ideal S256x512 .f32) (a b o : Nat) (h1 : S256x512.Slices ![a, b] S128x128) (h2 : S128x128.Slices ![o, 0] S64x128)
    (ha : a ≤ 128) (hb : b ≤ 384) (ho : o ≤ 64) (e c : Fin 128) :
    piece A a b o h1 h2 (ix3 0 e c) = if he : e.val < 64 then A (ix2 (⟨a + c.val, by omega⟩ : Fin 256) (⟨b + (o + e.val), by omega⟩ : Fin 512)) else 0 := by
  unfold piece
  unfold_payloads
  pointwise

end Cert.Proof.Proj

end
-- ==== Proof.Softmax.lean ====
/-
  A softmax with one extra logit (the sink), over the extended reals: what masking a key out does to it. A row of 256
  logits of which, for each `j` below 128, one of the entries `j` and `128 + j` is −∞ and the other is the entry `j` of a
  row of 128, has the maximum, the denominator and the weights of the row of 128.
-/
module

public import Idealize.ShloMosaic.Lib.Pointwise

@[expose] public section

noncomputable section

namespace Cert.Proof.Softmax

open Idealize.ShloMosaic
open scoped BigOperators

variable {ι : Type} [Fintype ι]

/-- The greatest of a row of logits and the sink. -/
def top (l : ι → EReal) (s : EReal) : EReal := max (Finset.univ.sup l) s

/-- The denominator: the exponentials over the row, and the sink's. -/
def den (l : ι → EReal) (s : EReal) : EReal := (∑ k, Ideal.exp (l k - top l s)) + Ideal.exp (s - top l s)

/-- The weight of key `k`. -/
def prob (l : ι → EReal) (s : EReal) (k : ι) : EReal := Ideal.div (Ideal.exp (l k - top l s)) (den l s)

/-- The mixture of a row of values by the weights. -/
def attend (l : ι → EReal) (s : EReal) (v : ι → EReal) : EReal := ∑ k, v k * prob l s k

theorem exp_nonneg (x : EReal) : 0 ≤ Ideal.exp x := by
  induction x with
  | bot => exact le_rfl
  | top => exact le_top
  | coe r => exact EReal.coe_nonneg.2 (Real.exp_pos r).le

/-- A key at −∞ adds nothing. -/
theorem exp_bot_sub (x : EReal) : Ideal.exp (⊥ - x) = 0 := by rw [EReal.bot_sub]; rfl

/-- Where no logit is +∞ and the sink is a real number, the denominator is not zero. -/
theorem den_ne_zero (l : ι → EReal) (s : EReal) (hl : ∀ k, l k ≠ ⊤) (h0 : s ≠ ⊥) (h1 : s ≠ ⊤) : den l s ≠ 0 := by
  have ht : top l s ≠ ⊤ := by
    refine ((max_lt_iff).2 ⟨?_, lt_top_iff_ne_top.2 h1⟩).ne
    exact (Finset.sup_lt_iff (by decide : (⊥ : EReal) < ⊤)).2 fun k _ => lt_top_iff_ne_top.2 (hl k)
  have hb : top l s ≠ ⊥ := fun h => h0 (le_bot_iff.1 (h ▸ le_max_right _ _))
  have hp : 0 < Ideal.exp (s - top l s) := by
    lift s to ℝ using ⟨h1, h0⟩
    generalize top l s = M at ht hb
    lift M to ℝ using ⟨ht, hb⟩
    rw [← EReal.coe_sub]
    exact EReal.coe_pos.2 (Real.exp_pos _)
  have hs : 0 ≤ ∑ k, Ideal.exp (l k - top l s) := Finset.sum_nonneg fun k _ => exp_nonneg _
  exact (lt_of_lt_of_le hp (le_add_of_nonneg_left hs)).ne'

theorem div_zero_left (d : EReal) (h : d ≠ 0) : Ideal.div 0 d = 0 := by unfold Ideal.div; rw [if_neg h, zero_mul]

/-! ## The merged row -/

variable (P : Fin 128 → Prop) [DecidablePred P] (L : Fin 256 → EReal) (l : Fin 128 → EReal) (s : EReal)

/-- `L` is `l` spread over two halves: where `P` holds the entry is in the second half, elsewhere in the first. -/
structure Spread : Prop where
  lo : ∀ j : Fin 128, L ⟨j.val, by omega⟩ = if P j then ⊥ else l j
  hi : ∀ j : Fin 128, L ⟨128 + j.val, by omega⟩ = if P j then l j else ⊥

theorem sum_halves {M : Type} [AddCommMonoid M] (f : Fin 256 → M) :
    ∑ k, f k = ∑ j : Fin 128, (f ⟨j.val, by omega⟩ + f ⟨128 + j.val, by omega⟩) := by
  rw [Finset.sum_add_distrib]
  exact Fin.sum_univ_add (a := 128) (b := 128) f

variable {P L l}

theorem Spread.sup_eq (h : Spread P L l) : Finset.univ.sup L = Finset.univ.sup l := by
  apply le_antisymm
  · refine Finset.sup_le fun k _ => ?_
    by_cases hk : k.val < 128
    · have e := h.lo ⟨k.val, hk⟩
      have : L k = _ := e
      rw [this]; split
      · exact bot_le
      · exact Finset.le_sup (f := l) (Finset.mem_univ _)
    · have e := h.hi ⟨k.val - 128, by omega⟩
      have hk' : (⟨128 + (k.val - 128), by omega⟩ : Fin 256) = k := Fin.ext (by dsimp only; omega)
      rw [← hk', e]; split
      · exact Finset.le_sup (f := l) (Finset.mem_univ _)
      · exact bot_le
  · refine Finset.sup_le fun j _ => ?_
    by_cases hj : P j
    · have e := h.hi j; rw [if_pos hj] at e; rw [← e]; exact Finset.le_sup (Finset.mem_univ _)
    · have e := h.lo j; rw [if_neg hj] at e; rw [← e]; exact Finset.le_sup (Finset.mem_univ _)

theorem Spread.top_eq (h : Spread P L l) : top L s = top l s := by unfold top; rw [h.sup_eq]

theorem Spread.den_eq (h : Spread P L l) : den L s = den l s := by
  unfold den
  rw [h.top_eq, sum_halves]
  congr 1
  refine Finset.sum_congr rfl fun j _ => ?_
  rw [h.lo, h.hi]
  by_cases hj : P j
  · rw [if_pos hj, if_pos hj, exp_bot_sub, zero_add]
  · rw [if_neg hj, if_neg hj, exp_bot_sub, add_zero]

/-- The mixture over the 256 keys is the mixture over the 128 of the merged row, each weight at the half its key lies in. -/
theorem Spread.attend_eq (h : Spread P L l) (hd : den l s ≠ 0) (v : Fin 256 → EReal) :
    attend L s v = ∑ j : Fin 128, (v ⟨j.val, by omega⟩ * (if P j then 0 else prob l s j)
      + v ⟨128 + j.val, by omega⟩ * (if P j then prob l s j else 0)) := by
  unfold attend
  rw [sum_halves]
  refine Finset.sum_congr rfl fun j _ => ?_
  unfold prob
  rw [h.den_eq, h.top_eq, h.lo, h.hi]
  by_cases hj : P j
  · simp only [if_pos hj, exp_bot_sub, div_zero_left _ hd]
  · simp only [if_neg hj, exp_bot_sub, div_zero_left _ hd]

/-- Where the merged logit is −∞ the value it weighs may be any. -/
theorem prob_bot (j : Fin 128) (hd : den l s ≠ 0) (hj : l j = ⊥) : prob l s j = 0 := by
  unfold prob; rw [hj, exp_bot_sub, div_zero_left _ hd]

/-! ## A positive factor through a sum of products -/

/-- A factor that is a nonnegative real number may be taken out of a sum. -/
theorem sum_mul_real {ι : Type} (t : Finset ι) (f : ι → EReal) (c : EReal) (h0 : 0 ≤ c) (h1 : c ≠ ⊤) :
    ∑ k ∈ t, f k * c = (∑ k ∈ t, f k) * c := by
  classical
  induction t using Finset.induction_on with
  | empty => simp
  | insert a t ha ih => rw [Finset.sum_insert ha, Finset.sum_insert ha, ih, EReal.right_distrib_of_nonneg_of_ne_top h0 h1]

/-- A sum of products of real numbers is a real number. -/
theorem sum_mul_coe {ι : Type} (t : Finset ι) (f g : ι → EReal) (hf : ∀ k, f k ≠ ⊤ ∧ f k ≠ ⊥) (hg : ∀ k, g k ≠ ⊤ ∧ g k ≠ ⊥) :
    ∃ r : ℝ, ∑ k ∈ t, f k * g k = (r : EReal) := by
  classical
  induction t using Finset.induction_on with
  | empty => exact ⟨0, by simp⟩
  | insert a t ha ih =>
    obtain ⟨r, hr⟩ := ih
    refine ⟨(f a).toReal * (g a).toReal + r, ?_⟩
    rw [Finset.sum_insert ha, hr, EReal.coe_add, EReal.coe_mul, EReal.coe_toReal (hf a).1 (hf a).2, EReal.coe_toReal (hg a).1 (hg a).2]

end Cert.Proof.Softmax

end
-- ==== Proof.ProjIn.lean ====
/-
  The blocks a point of the input projection reads, and one column of a product over them.
-/
module

public import proofs.«01_k».proof.Proof.ProjHost
public import proofs.«01_k».proof.Proof.ProjKer
public import proofs.«01_k».proof.Proof.Softmax

@[expose] public section

noncomputable section

namespace Cert.Proof.Proj

open Idealize.ShloMosaic Idealize.ShloMosaic.TcCoe Idealize.SL.Sem Cert.Proof.Rows
open Cert.Kernel5Ideal Cert.Kernel5Ideal.Gen
open scoped BigOperators

/-- The block of tokens moves with the grid point, the gain stands still. -/
theorem idx_rows : ∀ t : Fin cfg0.N,
    (win0_0.index t 0 = t.val ∧ win0_0.index t 1 = 0) ∧ (win0_1.index t 0 = 0 ∧ win0_1.index t 1 = 0) :=
  (by decide +kernel : ∀ t : Fin grid0.N, _)

/-- The weights stand still over the grid. -/
theorem idx_weights : ∀ t : Fin cfg0.N,
    (win0_2.index t 0 = 0 ∧ win0_2.index t 1 = 0) ∧ (win0_3.index t 0 = 0 ∧ win0_3.index t 1 = 0)
    ∧ (win0_4.index t 0 = 0 ∧ win0_4.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

/-- There are 128 points. -/
theorem N_eq : cfg0.N = 128 := by decide +kernel
theorem t_lt (t : Fin cfg0.N) : t.val < 128 := lt_of_lt_of_eq t.isLt N_eq

/-- A row of point `t`'s block in the flattened token axis. -/
def row (t : Fin cfg0.N) (r : Fin 256) : Fin 32768 := ⟨t.val * 256 + r.val, by have := t_lt t; omega⟩

/-! An array's block at a point, at an index. -/

theorem read_0 (A : S32768x1024.Idx → EReal) (t : Fin cfg0.N) (r : Fin 256) (d : Fin 1024) :
    ((win0_0.blk t).view.read (Elt Ideal) A : S256x1024.Idx → EReal) (ix2 r d) = A (ix2 (row t r) d) := by
  refine congrArg A (funext fun a => Fin.ext ?_)
  match a with
  | ⟨0, _⟩ => show win0_0.index t 0 * 256 + 1 * r.val = t.val * 256 + r.val; rw [(idx_rows t).1.1]; omega
  | ⟨1, _⟩ => show win0_0.index t 1 * 1024 + 1 * d.val = d.val; rw [(idx_rows t).1.2]; omega

theorem read_1 (A : S1x1024.Idx → EReal) (t : Fin cfg0.N) (d : Fin 1024) :
    ((win0_1.blk t).view.read (Elt Ideal) A : S1x1024.Idx → EReal) (ix2 0 d) = A (ix2 0 d) := by
  refine congrArg A (funext fun a => Fin.ext ?_)
  match a with
  | ⟨0, _⟩ => show win0_1.index t 0 * 1 + 1 * 0 = 0; rw [(idx_rows t).2.1]
  | ⟨1, _⟩ => show win0_1.index t 1 * 1024 + 1 * d.val = d.val; rw [(idx_rows t).2.2]; omega

/-- The weights' blocks are the whole arrays. -/
theorem whole_eq {n : Nat} (x y : (⟨2, ![1024, n]⟩ : Shape).Idx) (a b : Nat) (ha : a = 0) (hb : b = 0)
    (h0 : (x 0).val = a * 1024 + 1 * (y 0).val) (h1 : (x 1).val = b * n + 1 * (y 1).val) : x = y := by
  subst ha hb
  refine funext fun k => Fin.ext ?_
  match k with
  | ⟨0, _⟩ => show (x 0).val = (y 0).val; omega
  | ⟨1, _⟩ => show (x 1).val = (y 1).val; omega

theorem read_2 (A : S1024x512.Idx → EReal) (t : Fin cfg0.N) (y : S1024x512.Idx) :
    ((win0_2.blk t).view.read (Elt Ideal) A : S1024x512.Idx → EReal) y = A y :=
  congrArg A (whole_eq _ y _ _ (idx_weights t).1.1 (idx_weights t).1.2 rfl rfl)
theorem read_3 (A : S1024x256.Idx → EReal) (t : Fin cfg0.N) (y : S1024x256.Idx) :
    ((win0_3.blk t).view.read (Elt Ideal) A : S1024x256.Idx → EReal) y = A y :=
  congrArg A (whole_eq _ y _ _ (idx_weights t).2.1.1 (idx_weights t).2.1.2 rfl rfl)
theorem read_4 (A : S1024x512.Idx → EReal) (t : Fin cfg0.N) (y : S1024x512.Idx) :
    ((win0_4.blk t).view.read (Elt Ideal) A : S1024x512.Idx → EReal) y = A y :=
  congrArg A (whole_eq _ y _ _ (idx_weights t).2.2.1.1 (idx_weights t).2.2.1.2 rfl rfl)
theorem read_6 (A : S1024x256.Idx → EReal) (t : Fin cfg0.N) (y : S1024x256.Idx) :
    ((win0_6.blk t).view.read (Elt Ideal) A : S1024x256.Idx → EReal) y = A y :=
  congrArg A (whole_eq _ y _ _ (idx_weights t).2.2.2.1.1 (idx_weights t).2.2.2.1.2 rfl rfl)
theorem read_7 (A : S1024x256.Idx → EReal) (t : Fin cfg0.N) (y : S1024x256.Idx) :
    ((win0_7.blk t).view.read (Elt Ideal) A : S1024x256.Idx → EReal) y = A y :=
  congrArg A (whole_eq _ y _ _ (idx_weights t).2.2.2.2.1.1 (idx_weights t).2.2.2.2.1.2 rfl rfl)
theorem read_8 (A : S1024x128.Idx → EReal) (t : Fin cfg0.N) (y : S1024x128.Idx) :
    ((win0_8.blk t).view.read (Elt Ideal) A : S1024x128.Idx → EReal) y = A y :=
  congrArg A (whole_eq _ y _ _ (idx_weights t).2.2.2.2.2.1.1 (idx_weights t).2.2.2.2.2.1.2 rfl rfl)
theorem read_9 (A : S1024x2048.Idx → EReal) (t : Fin cfg0.N) (y : S1024x2048.Idx) :
    ((win0_9.blk t).view.read (Elt Ideal) A : S1024x2048.Idx → EReal) y = A y :=
  congrArg A (whole_eq _ y _ _ (idx_weights t).2.2.2.2.2.2.1 (idx_weights t).2.2.2.2.2.2.2 rfl rfl)

variable (m : (ℓ : Loc nD τ sig) → Buf (Elt Ideal) ℓ) (c : Dev nD)

/-- A normalised row of a point's tokens. -/
theorem unit_eq (t : Fin cfg0.N) (r : Fin 256) :
    unit (iblk m c 0 t) (iblk m c 1 t) r
      = rms (fun d => H m c (ix3 (bat (row t r).val (row t r).isLt) (tim (row t r).val) d)) (fun d => G m c (ix2 0 d)) := by
  unfold unit
  refine congrArg₂ rms (funext fun d => ?_) (funext fun d => ?_)
  · exact (read_0 (V m c main_v0) t r d).trans (V_v0 m c (row t r) d)
  · exact (read_1 (V m c main_arg1) t d).trans (congrFun (V_main_arg1 m c) _)

/-- Column `j` of a product is column `q` of the projection where the weights' column is that of the argument. -/
theorem rowMul_col (t : Fin cfg0.N) (r : Fin 256) {n : Nat} (w : Fin 1024 → Fin n → EReal) (j : Fin n) (q : Fin 4040)
    (hw : ∀ k, w k j = W m c (ix3 0 k q)) :
    rowMul (unit (iblk m c 0 t) (iblk m c 1 t) r) w j = col (H m c) (G m c) (W m c) (row t r) q := by
  rw [unit_eq]
  exact Finset.sum_congr rfl fun k _ => congrArg _ (hw k)

/-- Where the weights' column is that of the argument scaled by 1/8, the product is the projection's column scaled by 1/8. -/
theorem rowMul_scaled (t : Fin cfg0.N) (r : Fin 256) {n : Nat} (w : Fin 1024 → Fin n → EReal) (j : Fin n) (q : Fin 4040)
    (hw : ∀ k, w k j = W m c (ix3 0 k q) * Ideal.ofBits .f32 0x3E000000#32) :
    rowMul (unit (iblk m c 0 t) (iblk m c 1 t) r) w j
      = col (H m c) (G m c) (W m c) (row t r) q * Ideal.ofBits .f32 0x3E000000#32 := by
  have e : Ideal.ofBits .f32 0x3E000000#32 = ((1 / 8 : ℝ) : EReal) := by
    simp [Ideal.ofBits, Ideal.ieee, -EReal.coe_mul]; norm_num
  have h0 : (0 : EReal) ≤ Ideal.ofBits .f32 0x3E000000#32 := by rw [e]; exact EReal.coe_nonneg.2 (by norm_num)
  have h1 : Ideal.ofBits .f32 0x3E000000#32 ≠ ⊤ := by rw [e]; exact EReal.coe_ne_top _
  rw [← rowMul_col m c t r (fun k _ => W m c (ix3 0 k q)) j q (fun _ => rfl)]
  unfold rowMul
  rw [← Softmax.sum_mul_real _ _ _ h0 h1]
  exact Finset.sum_congr rfl fun k _ => by rw [hw k, ← mul_assoc]

/-- Where the weights' column is zero, the product is zero. -/
theorem rowMul_zero (u : Fin 1024 → EReal) {n : Nat} (w : Fin 1024 → Fin n → EReal) (j : Fin n) (hw : ∀ k, w k j = 0) :
    rowMul u w j = 0 :=
  Finset.sum_eq_zero fun k _ => by rw [hw k, mul_zero]

end Cert.Proof.Proj

end
-- ==== Proof.ProjBlock.lean ====
/-
  The two arrays of queries: sixteen stores a point, one a head and block of 128 tokens, as one array.
-/
module

public import proofs.«01_k».proof.Proof.ProjKer

@[expose] public section

noncomputable section

namespace Cert.Proof.Proj

open Idealize.ShloMosaic Idealize.ShloMosaic.TcCoe Idealize.SL.Sem Cert.Proof.Rows
open Cert.Kernel5Ideal Cert.Kernel5Ideal.Gen
open scoped BigOperators

/-- Eight heads of two blocks of tokens, each transposed over 64 rows of zeros. -/
def headsBlock (A : S256x512.Idx → EReal) : S2x128x1024.Idx → EReal := fun y =>
  have h0 : (y 0).val < 2 := (y 0).isLt
  have h2 : (y 2).val < 1024 := (y 2).isLt
  if he : (y 1).val < 64 then
    A (ix2 (⟨(y 0).val * 128 + (y 2).val % 128, by omega⟩ : Fin 256) (⟨(y 2).val / 128 * 64 + (y 1).val, by omega⟩ : Fin 512))
  else 0

/-- A store of one head at one block lies where that array has it. -/
theorem piece_eq (A : FVec Ideal S256x512 .f32) (a b o : Nat) (h1 : S256x512.Slices ![a, b] S128x128) (h2 : S128x128.Slices ![o, 0] S64x128)
    (ha : a ≤ 128) (hb : b ≤ 384) (ho : o ≤ 64) (hm : (b + o) % 64 = 0) (off : Fin 3 → Nat)
    (inb : ∀ k, off k + S1x128x128.size k ≤ S2x128x1024.size k) (h0 : off 0 * 128 = a) (hz : off 1 = 0) (hc : off 2 = (b + o) * 2)
    (x : S1x128x128.Idx) :
    piece A a b o h1 h2 x = headsBlock A ((Rect.unit (s := S2x128x1024) off S1x128x128.size inb).emb x) := by
  obtain ⟨e, c, rfl⟩ : ∃ e c : Fin 128, x = ix3 0 e c := ⟨x 1, x 2, funext fun k => by
    match k with
    | ⟨0, _⟩ => exact Fin.ext (Nat.lt_one_iff.1 (x 0).isLt)
    | ⟨1, _⟩ => rfl
    | ⟨2, _⟩ => rfl⟩
  rw [piece_apply A a b o h1 h2 ha hb ho e c]
  have e0 : ((Rect.unit (s := S2x128x1024) off S1x128x128.size inb).emb (ix3 0 e c) 0).val = off 0 + 1 * 0 := rfl
  have e1 : ((Rect.unit (s := S2x128x1024) off S1x128x128.size inb).emb (ix3 0 e c) 1).val = off 1 + 1 * e.val := rfl
  have e2 : ((Rect.unit (s := S2x128x1024) off S1x128x128.size inb).emb (ix3 0 e c) 2).val = off 2 + 1 * c.val := rfl
  unfold headsBlock
  refine dite_congr (propext (by rw [e1, hz]; constructor <;> intro h <;> omega)) (fun he => ?_) (fun _ => rfl)
  refine congrArg A (congrArg₂ ix2 (Fin.ext ?_) (Fin.ext ?_))
  · dsimp only; rw [e0, e2, hc]; omega
  · dsimp only; rw [e1, e2, hc, hz]; omega

/-- The sixteen stores make up that array. -/
theorem canon_pieces (A : FVec Ideal S256x512 .f32) :
    View.canon ([⟨r0_26, piece A 128 384 64 slices_S256x512_o128_384_S128x128 slices_S128x128_o64_0_S64x128⟩,
      ⟨r0_25, piece A 128 384 0 slices_S256x512_o128_384_S128x128 slices_S128x128_o0_0_S64x128⟩,
      ⟨r0_24, piece A 128 256 64 slices_S256x512_o128_256_S128x128 slices_S128x128_o64_0_S64x128⟩,
      ⟨r0_23, piece A 128 256 0 slices_S256x512_o128_256_S128x128 slices_S128x128_o0_0_S64x128⟩,
      ⟨r0_22, piece A 128 128 64 slices_S256x512_o128_128_S128x128 slices_S128x128_o64_0_S64x128⟩,
      ⟨r0_21, piece A 128 128 0 slices_S256x512_o128_128_S128x128 slices_S128x128_o0_0_S64x128⟩,
      ⟨r0_20, piece A 128 0 64 slices_S256x512_o128_0_S128x128 slices_S128x128_o64_0_S64x128⟩,
      ⟨r0_19, piece A 128 0 0 slices_S256x512_o128_0_S128x128 slices_S128x128_o0_0_S64x128⟩,
      ⟨r0_17, piece A 0 384 64 slices_S256x512_o0_384_S128x128 slices_S128x128_o64_0_S64x128⟩,
      ⟨r0_16, piece A 0 384 0 slices_S256x512_o0_384_S128x128 slices_S128x128_o0_0_S64x128⟩,
      ⟨r0_15, piece A 0 256 64 slices_S256x512_o0_256_S128x128 slices_S128x128_o64_0_S64x128⟩,
      ⟨r0_14, piece A 0 256 0 slices_S256x512_o0_256_S128x128 slices_S128x128_o0_0_S64x128⟩,
      ⟨r0_13, piece A 0 128 64 slices_S256x512_o0_128_S128x128 slices_S128x128_o64_0_S64x128⟩,
      ⟨r0_12, piece A 0 128 0 slices_S256x512_o0_128_S128x128 slices_S128x128_o0_0_S64x128⟩,
      ⟨r0_11, piece A 0 0 64 slices_S256x512_o0_0_S128x128 slices_S128x128_o64_0_S64x128⟩,
      ⟨r0_10, piece A 0 0 0 slices_S256x512_o0_0_S128x128 slices_S128x128_o0_0_S64x128⟩] :
      List (View.Piece (Elt Ideal) S2x128x1024 .bf16)) = headsBlock A := by
  funext y
  refine View.canon_apply_of_pieces (Val := Elt Ideal) (headsBlock A) _ (fun p hp x => ?_) y (cover0_10 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  all_goals
    dsimp only
    refine piece_eq A _ _ _ _ _ ?_ ?_ ?_ ?_ _ _ ?_ ?_ ?_ x <;> first | rfl | decide

section Outs
variable (i : grid0.Coords) (x0 : S256x1024.Idx → EReal) (x1 : S1x1024.Idx → EReal) (x2 : S1024x512.Idx → EReal)
  (x3 : S1024x256.Idx → EReal) (x4 x5 : S1024x512.Idx → EReal) (x6 x7 : S1024x256.Idx → EReal) (x8 : S1024x128.Idx → EReal)
  (x9 : S1024x2048.Idx → EReal)

theorem hz2 : (![0, 0] : Fin 2 → Nat) = fun _ => 0 := funext fun a => by fin_cases a <;> rfl

/-- The sliding window's queries of a point. -/
theorem out10_eq : out0_10 (F := Ideal) i x0 x1 x2 x3 x4 x5 x6 x7 x8 x9 = headsBlock (k0_pay14 (F := Ideal) (k0_pay2 x0 x1) x2) := by
  unfold_out out0_10
  rw [View.ld_unit_zero hz2, View.ld_unit_zero hz2, View.ld_unit_zero hz2]
  exact canon_pieces _

/-- The indexer's queries of a point. -/
theorem out13_eq : out0_13 (F := Ideal) i x0 x1 x2 x3 x4 x5 x6 x7 x8 x9 = headsBlock (k0_pay15 (F := Ideal) (k0_pay2 x0 x1) x4) := by
  unfold_out out0_13
  rw [View.ld_unit_zero hz2, View.ld_unit_zero hz2, View.ld_unit_zero hz2]
  exact canon_pieces _

end Outs

end Cert.Proof.Proj

end
-- ==== Proof.ProjArr.lean ====
/-
  The seven arrays the input projection leaves: every point writes back its block of one array, and the blocks cover it.
-/
module

public import proofs.«01_k».proof.Proof.ProjIn
public import proofs.«01_k».proof.Proof.ProjBlock
public import proofs.«01_k».proof.Proof.Gen.Kernel5Ideal.Value

@[expose] public section

noncomputable section

namespace Cert.Proof.Proj

open Idealize.ShloMosaic Idealize.ShloMosaic.TcCoe Idealize.SL.Sem Cert.Proof.Rows
open Cert.Kernel5Ideal Cert.Kernel5Ideal.Gen
open scoped BigOperators

/-- The blocks of the arrays over rows of tokens move with the grid point. -/
theorem idx_flat : ∀ t : Fin cfg0.N,
    (win0_11.index t 0 = t.val ∧ win0_11.index t 1 = 0) ∧ (win0_15.index t 0 = t.val ∧ win0_15.index t 1 = 0)
    ∧ (win0_18.index t 0 = t.val ∧ win0_18.index t 1 = 0) ∧ (win0_19.index t 0 = t.val ∧ win0_19.index t 1 = 0) :=
  (by decide +kernel : ∀ t : Fin grid0.N, _)

/-- The blocks of the transposed arrays move with the grid point. -/
theorem idx_trans : ∀ t : Fin cfg0.N,
    (win0_10.index t 0 = t.val ∧ win0_10.index t 1 = 0 ∧ win0_10.index t 2 = 0)
    ∧ (win0_12.index t 0 = t.val ∧ win0_12.index t 1 = 0 ∧ win0_12.index t 2 = 0)
    ∧ (win0_13.index t 0 = t.val ∧ win0_13.index t 1 = 0 ∧ win0_13.index t 2 = 0) :=
  (by decide +kernel : ∀ t : Fin grid0.N, _)

/-- The blocks of 128 tokens of a point. -/
def blk (t : Fin cfg0.N) (b : Fin 2) : Fin 256 := ⟨t.val * 2 + b.val, by have := t_lt t; omega⟩

/-- Every row of tokens and every block of 128 tokens is some grid point's. -/
theorem row_surj (q : Fin 32768) : ∃ (t : Fin cfg0.N) (r : Fin 256), q = row t r :=
  ⟨⟨q.val / 256, by rw [N_eq]; omega⟩, ⟨q.val % 256, by omega⟩, Fin.ext (by show q.val = q.val / 256 * 256 + q.val % 256; omega)⟩
theorem blk_surj (q : Fin 256) : ∃ (t : Fin cfg0.N) (b : Fin 2), q = blk t b :=
  ⟨⟨q.val / 2, by rw [N_eq]; omega⟩, ⟨q.val % 2, by omega⟩, Fin.ext (by show q.val = q.val / 2 * 2 + q.val % 2; omega)⟩

/-- Where an index of a point's block of rows stands in the whole array. -/
theorem flat_eq {n : Nat} (t : Fin cfg0.N) (r : Fin 256) (j : Fin n) (x : (⟨2, ![32768, n]⟩ : Shape).Idx) (a b : Nat)
    (hab : a = t.val ∧ b = 0) (h0 : (x 0).val = a * 256 + 1 * r.val) (h1 : (x 1).val = b * n + 1 * j.val) : x = ix2 (row t r) j := by
  obtain ⟨rfl, rfl⟩ := hab
  refine funext fun k => Fin.ext ?_
  match k with
  | ⟨0, _⟩ => show (x 0).val = t.val * 256 + r.val; omega
  | ⟨1, _⟩ => show (x 1).val = j.val; omega

/-- Where an index of a point's transposed blocks stands in the whole array. -/
theorem trans_eq {n : Nat} (t : Fin cfg0.N) (b : Fin 2) (e : Fin 128) (j : Fin n) (x : (⟨3, ![256, 128, n]⟩ : Shape).Idx) (a0 a1 a2 : Nat)
    (ha : a0 = t.val ∧ a1 = 0 ∧ a2 = 0) (h0 : (x 0).val = a0 * 2 + 1 * b.val) (h1 : (x 1).val = a1 * 128 + 1 * e.val)
    (h2 : (x 2).val = a2 * n + 1 * j.val) : x = ix3 (blk t b) e j := by
  obtain ⟨rfl, rfl, rfl⟩ := ha
  refine funext fun k => Fin.ext ?_
  match k with
  | ⟨0, _⟩ => show (x 0).val = t.val * 2 + b.val; omega
  | ⟨1, _⟩ => show (x 1).val = e.val; omega
  | ⟨2, _⟩ => show (x 2).val = j.val; omega

theorem emb_11 (t : Fin cfg0.N) (r : Fin 256) (j : Fin 256) :
    ((win0_11.blk t).view.emb (ix2 r j) : S32768x256.Idx) = ix2 (row t r) j :=
  flat_eq t r j _ _ _ (idx_flat t).1 rfl rfl
theorem emb_15 (t : Fin cfg0.N) (r : Fin 256) (j : Fin 128) :
    ((win0_15.blk t).view.emb (ix2 r j) : S32768x128.Idx) = ix2 (row t r) j :=
  flat_eq t r j _ _ _ (idx_flat t).2.1 rfl rfl
theorem emb_18 (t : Fin cfg0.N) (r : Fin 256) (j : Fin 128) :
    ((win0_18.blk t).view.emb (ix2 r j) : S32768x128.Idx) = ix2 (row t r) j :=
  flat_eq t r j _ _ _ (idx_flat t).2.2.1 rfl rfl
theorem emb_19 (t : Fin cfg0.N) (r : Fin 256) (j : Fin 2048) :
    ((win0_19.blk t).view.emb (ix2 r j) : S32768x2048.Idx) = ix2 (row t r) j :=
  flat_eq t r j _ _ _ (idx_flat t).2.2.2 rfl rfl
theorem emb_10 (t : Fin cfg0.N) (b : Fin 2) (e : Fin 128) (j : Fin 1024) :
    ((win0_10.blk t).view.emb (ix3 b e j) : S256x128x1024.Idx) = ix3 (blk t b) e j :=
  trans_eq t b e j _ _ _ _ (idx_trans t).1 rfl rfl rfl
theorem emb_12 (t : Fin cfg0.N) (b : Fin 2) (e : Fin 128) (j : Fin 128) :
    ((win0_12.blk t).view.emb (ix3 b e j) : S256x128x128.Idx) = ix3 (blk t b) e j :=
  trans_eq t b e j _ _ _ _ (idx_trans t).2.1 rfl rfl rfl
theorem emb_13 (t : Fin cfg0.N) (b : Fin 2) (e : Fin 128) (j : Fin 1024) :
    ((win0_13.blk t).view.emb (ix3 b e j) : S256x128x1024.Idx) = ix3 (blk t b) e j :=
  trans_eq t b e j _ _ _ _ (idx_trans t).2.2 rfl rfl rfl

/-! The blocks cover the arrays. -/

theorem cover_11 (i : S32768x256.Idx) : ∃ t : Fin cfg0.N, (cfg0.win 11).flush t = true ∧ i ∈ ((cfg0.win 11).blk t).view.set := by
  obtain ⟨q, j, rfl⟩ : ∃ q j, i = ix2 q j := ⟨i 0, i 1, eq_ix2 i⟩
  obtain ⟨t, r, rfl⟩ := row_surj q
  refine ⟨t, flush0_11 t, ?_⟩
  rw [← emb_11]
  exact (win0_11.blk t).view.emb_mem_set _
theorem cover_15 (i : S32768x128.Idx) : ∃ t : Fin cfg0.N, (cfg0.win 15).flush t = true ∧ i ∈ ((cfg0.win 15).blk t).view.set := by
  obtain ⟨q, j, rfl⟩ : ∃ q j, i = ix2 q j := ⟨i 0, i 1, eq_ix2 i⟩
  obtain ⟨t, r, rfl⟩ := row_surj q
  refine ⟨t, flush0_15 t, ?_⟩
  rw [← emb_15]
  exact (win0_15.blk t).view.emb_mem_set _
theorem cover_18 (i : S32768x128.Idx) : ∃ t : Fin cfg0.N, (cfg0.win 18).flush t = true ∧ i ∈ ((cfg0.win 18).blk t).view.set := by
  obtain ⟨q, j, rfl⟩ : ∃ q j, i = ix2 q j := ⟨i 0, i 1, eq_ix2 i⟩
  obtain ⟨t, r, rfl⟩ := row_surj q
  refine ⟨t, flush0_18 t, ?_⟩
  rw [← emb_18]
  exact (win0_18.blk t).view.emb_mem_set _
theorem cover_19 (i : S32768x2048.Idx) : ∃ t : Fin cfg0.N, (cfg0.win 19).flush t = true ∧ i ∈ ((cfg0.win 19).blk t).view.set := by
  obtain ⟨q, j, rfl⟩ : ∃ q j, i = ix2 q j := ⟨i 0, i 1, eq_ix2 i⟩
  obtain ⟨t, r, rfl⟩ := row_surj q
  refine ⟨t, flush0_19 t, ?_⟩
  rw [← emb_19]
  exact (win0_19.blk t).view.emb_mem_set _
theorem cover_10 (i : S256x128x1024.Idx) : ∃ t : Fin cfg0.N, (cfg0.win 10).flush t = true ∧ i ∈ ((cfg0.win 10).blk t).view.set := by
  obtain ⟨q, e, j, rfl⟩ : ∃ q e j, i = ix3 q e j := ⟨i 0, i 1, i 2, eq_ix3 i⟩
  obtain ⟨t, b, rfl⟩ := blk_surj q
  refine ⟨t, flush0_10 t, ?_⟩
  rw [← emb_10]
  exact (win0_10.blk t).view.emb_mem_set _
theorem cover_12 (i : S256x128x128.Idx) : ∃ t : Fin cfg0.N, (cfg0.win 12).flush t = true ∧ i ∈ ((cfg0.win 12).blk t).view.set := by
  obtain ⟨q, e, j, rfl⟩ : ∃ q e j, i = ix3 q e j := ⟨i 0, i 1, i 2, eq_ix3 i⟩
  obtain ⟨t, b, rfl⟩ := blk_surj q
  refine ⟨t, flush0_12 t, ?_⟩
  rw [← emb_12]
  exact (win0_12.blk t).view.emb_mem_set _
theorem cover_13 (i : S256x128x1024.Idx) : ∃ t : Fin cfg0.N, (cfg0.win 13).flush t = true ∧ i ∈ ((cfg0.win 13).blk t).view.set := by
  obtain ⟨q, e, j, rfl⟩ : ∃ q e j, i = ix3 q e j := ⟨i 0, i 1, i 2, eq_ix3 i⟩
  obtain ⟨t, b, rfl⟩ := blk_surj q
  refine ⟨t, flush0_13 t, ?_⟩
  rw [← emb_13]
  exact (win0_13.blk t).view.emb_mem_set _

variable (m : (ℓ : Loc nD τ sig) → Buf (Elt Ideal) ℓ) (c : Dev nD)

/-- The array of the sliding window's keys ends as `keys`. -/
theorem final_11 : (dats m 0 c).arrAt 11 cfg0.N = keys (H m c) (G m c) (W m c) := by
  refine (dats m 0 c).arrAt_eq_of_cover 11 (keys (H m c) (G m c) (W m c)) (fun t _ => ?_) cover_11
  rw [Value.flushed11]
  unfold out0_11
  rw [View.canon_unit_zero hz2, View.ld_unit_zero hz2, View.ld_unit_zero hz2, View.ld_unit_zero hz2]
  funext y
  obtain ⟨r, j, rfl⟩ : ∃ (r : Fin 256) (j : Fin 256), y = ix2 r j := ⟨y 0, y 1, eq_ix2 y⟩
  show k0_pay3 (F := Ideal) (iblk m c 0 t) (iblk m c 1 t) (iblk m c 3 t) (ix2 r j)
    = keys (H m c) (G m c) (W m c) ((win0_11.blk t).view.emb (ix2 r j))
  rw [emb_11, keys_apply]
  by_cases hj : j.val % 128 < 64
  · exact (rowMul_col m c t r _ j _ (fun k => (read_3 (V m c main_v23) t (ix2 k j)).trans ((V_v23 m c k j).trans (dif_pos hj)))).trans
      (keys_pos _ _ _ _ j hj).symm
  · exact (rowMul_zero _ _ j (fun k => (read_3 (V m c main_v23) t (ix2 k j)).trans ((V_v23 m c k j).trans (dif_neg hj)))).trans
      (keys_neg _ _ _ _ j hj).symm

/-- The array of the indexer's keys ends as the 64 columns from 1920 on, padded. -/
theorem final_15 : (dats m 0 c).arrAt 15 cfg0.N = lanes (H m c) (G m c) (W m c) 1920 64 (by omega) := by
  refine (dats m 0 c).arrAt_eq_of_cover 15 (lanes (H m c) (G m c) (W m c) 1920 64 (by omega)) (fun t _ => ?_) cover_15
  rw [Value.flushed15]
  unfold out0_15 k0_pay124
  rw [View.canon_unit_zero hz2, View.ld_unit_zero hz2, View.ld_unit_zero hz2, View.ld_unit_zero hz2]
  funext y
  obtain ⟨r, j, rfl⟩ : ∃ (r : Fin 256) (j : Fin 128), y = ix2 r j := ⟨y 0, y 1, eq_ix2 y⟩
  show k0_pay9 (F := Ideal) (k0_pay2 (iblk m c 0 t) (iblk m c 1 t)) (iblk m c 6 t) (ix2 r j)
    = lanes (H m c) (G m c) (W m c) 1920 64 (by omega) ((win0_15.blk t).view.emb (ix2 r j))
  rw [emb_15, lanes_apply]
  by_cases hj : j.val < 64
  · exact (rowMul_col m c t r _ _ _ (fun k => (read_6 (V m c main_v27) t (ix2 k _)).trans ((V_v27 m c k j).trans (dif_pos hj)))).trans
      (lanes_pos _ _ _ _ _ _ _ j hj).symm
  · exact (rowMul_zero _ _ _ (fun k => (read_6 (V m c main_v27) t (ix2 k _)).trans ((V_v27 m c k j).trans (dif_neg hj)))).trans
      (lanes_neg _ _ _ _ _ _ _ j hj).symm

/-- The array of the indexer's head weights ends as the 8 columns from 1984 on, padded. -/
theorem final_18 : (dats m 0 c).arrAt 18 cfg0.N = lanes (H m c) (G m c) (W m c) 1984 8 (by omega) := by
  refine (dats m 0 c).arrAt_eq_of_cover 18 (lanes (H m c) (G m c) (W m c) 1984 8 (by omega)) (fun t _ => ?_) cover_18
  rw [Value.flushed18]
  unfold out0_18
  rw [View.canon_unit_zero hz2, View.ld_unit_zero hz2, View.ld_unit_zero hz2, View.ld_unit_zero hz2]
  funext y
  obtain ⟨r, j, rfl⟩ : ∃ (r : Fin 256) (j : Fin 128), y = ix2 r j := ⟨y 0, y 1, eq_ix2 y⟩
  show k0_pay4 (F := Ideal) (iblk m c 0 t) (iblk m c 1 t) (iblk m c 8 t) (ix2 r j)
    = lanes (H m c) (G m c) (W m c) 1984 8 (by omega) ((win0_18.blk t).view.emb (ix2 r j))
  rw [emb_18, heads_apply]
  by_cases hj : j.val < 8
  · exact (rowMul_col m c t r _ j _ (fun k => (read_8 (V m c main_v31) t (ix2 k j)).trans ((V_v31 m c k j).trans (dif_pos hj)))).trans
      (lanes_pos _ _ _ _ _ _ _ j hj).symm
  · exact (rowMul_zero _ _ j (fun k => (read_8 (V m c main_v31) t (ix2 k j)).trans ((V_v31 m c k j).trans (dif_neg hj)))).trans
      (lanes_neg _ _ _ _ _ _ _ j hj).symm

/-- The array of the gates ends as `gates`. -/
theorem final_19 : (dats m 0 c).arrAt 19 cfg0.N = gates (H m c) (G m c) (W m c) := by
  refine (dats m 0 c).arrAt_eq_of_cover 19 (gates (H m c) (G m c) (W m c)) (fun t _ => ?_) cover_19
  rw [Value.flushed19]
  unfold out0_19
  rw [View.canon_unit_zero hz2, View.ld_unit_zero hz2, View.ld_unit_zero hz2, View.ld_unit_zero hz2]
  funext y
  obtain ⟨r, j, rfl⟩ : ∃ (r : Fin 256) (j : Fin 2048), y = ix2 r j := ⟨y 0, y 1, eq_ix2 y⟩
  show k0_pay5 (F := Ideal) (iblk m c 0 t) (iblk m c 1 t) (iblk m c 9 t) (ix2 r j)
    = gates (H m c) (G m c) (W m c) ((win0_19.blk t).view.emb (ix2 r j))
  rw [emb_19, gates_apply]
  exact congrArg Ideal.logistic (rowMul_col m c t r _ j _ (fun k => (read_9 (V m c main_v32) t (ix2 k j)).trans (V_v32 m c k j)))

/-- A row of a point in its blocks of 128 tokens. -/
theorem tok_blk (t : Fin cfg0.N) (b : Fin 2) (x : Fin 128) (r : Fin 256) (hr : r.val = b.val * 128 + x.val) :
    row t r = tok (blk t b) x :=
  Fin.ext (by show t.val * 256 + r.val = (t.val * 2 + b.val) * 128 + x.val; omega)

/-- A point's block of scaled heads is that block of the array. -/
theorem headsBlock_eq (A : S256x512.Idx → EReal) (t : Fin cfg0.N) (off : Nat) (ho : off + 512 ≤ 4040)
    (hA : ∀ (r : Fin 256) (j : Fin 512), A (ix2 r j)
      = col (H m c) (G m c) (W m c) (row t r) ⟨off + j.val, by omega⟩ * Ideal.ofBits .f32 0x3E000000#32)
    (b : Fin 2) (e : Fin 128) (j : Fin 1024) :
    headsBlock A (ix3 b e j) = heads (H m c) (G m c) (W m c) off ho (ix3 (blk t b) e j) := by
  unfold headsBlock heads
  refine dite_congr rfl (fun he => ?_) (fun _ => rfl)
  refine (hA _ _).trans (congrArg (fun q => col (H m c) (G m c) (W m c) q _ * Ideal.ofBits .f32 0x3E000000#32) ?_)
  exact tok_blk t b _ _ rfl

/-- The array of the sliding window's queries ends as the heads from column 0 on. -/
theorem final_10 : (dats m 0 c).arrAt 10 cfg0.N = heads (H m c) (G m c) (W m c) 0 (by omega) := by
  refine (dats m 0 c).arrAt_eq_of_cover 10 (heads (H m c) (G m c) (W m c) 0 (by omega)) (fun t _ => ?_) cover_10
  rw [Value.flushed10, out10_eq]
  funext y
  obtain ⟨b, e, j, rfl⟩ : ∃ (b : Fin 2) (e : Fin 128) (j : Fin 1024), y = ix3 b e j := ⟨y 0, y 1, y 2, eq_ix3 y⟩
  show headsBlock (k0_pay14 (F := Ideal) (k0_pay2 (iblk m c 0 t) (iblk m c 1 t)) (iblk m c 2 t)) (ix3 b e j)
    = heads (H m c) (G m c) (W m c) 0 (by omega) ((win0_10.blk t).view.emb (ix3 b e j))
  rw [emb_10]
  refine headsBlock_eq m c _ t 0 (by omega) (fun r j => ?_) b e j
  rw [queries_apply]
  refine rowMul_scaled m c t r _ j _ (fun k => (read_2 (V m c main_v19) t (ix2 k j)).trans ((V_v19 m c k j).trans ?_))
  exact congrArg (fun q => W m c (ix3 0 k q) * Ideal.ofBits .f32 0x3E000000#32) (Fin.ext (Nat.zero_add j.val).symm)

/-- The array of the indexer's queries ends as the heads from column 1408 on. -/
theorem final_13 : (dats m 0 c).arrAt 13 cfg0.N = heads (H m c) (G m c) (W m c) 1408 (by omega) := by
  refine (dats m 0 c).arrAt_eq_of_cover 13 (heads (H m c) (G m c) (W m c) 1408 (by omega)) (fun t _ => ?_) cover_13
  rw [Value.flushed13, out13_eq]
  funext y
  obtain ⟨b, e, j, rfl⟩ : ∃ (b : Fin 2) (e : Fin 128) (j : Fin 1024), y = ix3 b e j := ⟨y 0, y 1, y 2, eq_ix3 y⟩
  show headsBlock (k0_pay15 (F := Ideal) (k0_pay2 (iblk m c 0 t) (iblk m c 1 t)) (iblk m c 4 t)) (ix3 b e j)
    = heads (H m c) (G m c) (W m c) 1408 (by omega) ((win0_13.blk t).view.emb (ix3 b e j))
  rw [emb_13]
  refine headsBlock_eq m c _ t 1408 (by omega) (fun r j => ?_) b e j
  rw [queries'_apply]
  exact rowMul_scaled m c t r _ j _ (fun k => (read_4 (V m c main_v24) t (ix2 k j)).trans (V_v24 m c k j))

/-- The sliding window's values of a point. -/
def valsBlock (t : Fin cfg0.N) : S2x128x128.Idx → EReal := fun y => vals (H m c) (G m c) (W m c) (ix3 (blk t (y 0)) (y 1) (y 2))

/-- A store of them lies where that array has it. -/
theorem vals_piece (t : Fin cfg0.N) (P : S1x128x128.Idx → EReal) (b : Fin 2) (off : Fin 3 → Nat)
    (inb : ∀ k, off k + S1x128x128.size k ≤ S2x128x128.size k) (h0 : off 0 = b.val) (h1 : off 1 = 0) (h2 : off 2 = 0)
    (hP : ∀ e x : Fin 128, P (ix3 0 e x) = rowMul (unit (iblk m c 0 t) (iblk m c 1 t) (⟨b.val * 128 + x.val, by omega⟩ : Fin 256))
      (fun k j => (iblk m c 7 t : S1024x256.Idx → EReal) (ix2 k j)) (⟨128 + e.val, by omega⟩ : Fin 256))
    (x : S1x128x128.Idx) : P x = valsBlock m c t ((Rect.unit (s := S2x128x128) off S1x128x128.size inb).emb x) := by
  obtain ⟨e, q, rfl⟩ : ∃ e q : Fin 128, x = ix3 0 e q := ⟨x 1, x 2, funext fun k => by
    match k with
    | ⟨0, _⟩ => exact Fin.ext (Nat.lt_one_iff.1 (x 0).isLt)
    | ⟨1, _⟩ => rfl
    | ⟨2, _⟩ => rfl⟩
  have e0 : (Rect.unit (s := S2x128x128) off S1x128x128.size inb).emb (ix3 0 e q) = ix3 b e q := funext fun k => Fin.ext (by
    match k with
    | ⟨0, _⟩ => show off 0 + 1 * 0 = b.val; omega
    | ⟨1, _⟩ => show off 1 + 1 * e.val = e.val; omega
    | ⟨2, _⟩ => show off 2 + 1 * q.val = q.val; omega)
  rw [e0, hP, rowMul_col m c t _ _ _ ⟨640 + e.val, by omega⟩ (fun k => (read_7 (V m c main_v29) t (ix2 k _)).trans (V_v29 m c k e)),
    tok_blk t b q _ rfl]
  rfl

/-- The array of the sliding window's values ends as `vals`. -/
theorem final_12 : (dats m 0 c).arrAt 12 cfg0.N = vals (H m c) (G m c) (W m c) := by
  refine (dats m 0 c).arrAt_eq_of_cover 12 (vals (H m c) (G m c) (W m c)) (fun t _ => ?_) cover_12
  rw [Value.flushed12]
  unfold out0_12 k0_pay124
  rw [View.ld_unit_zero hz2, View.ld_unit_zero hz2, View.ld_unit_zero hz2]
  have e : View.canon ([⟨r0_18, k0_pay73 (F := Ideal) (k0_pay13 (k0_pay2 (iblk m c 0 t) (iblk m c 1 t)) (iblk m c 7 t))⟩,
      ⟨r0_9, k0_pay19 (F := Ideal) (k0_pay2 (iblk m c 0 t) (iblk m c 1 t)) (iblk m c 7 t)⟩] :
      List (View.Piece (Elt Ideal) S2x128x128 .bf16)) = valsBlock m c t := by
    funext y
    refine View.canon_apply_of_pieces (Val := Elt Ideal) (valsBlock m c t) _ (fun p hp x => ?_) y (cover0_12 _ _ y)
    simp only [List.mem_cons, List.not_mem_nil, or_false] at hp
    rcases hp with rfl | rfl
    · exact vals_piece m c t _ 1 _ inb_S2x128x128_S1x128x128_1_0_0 rfl rfl rfl (fun e q => valsB_apply _ _ _ e q) x
    · refine vals_piece m c t _ 0 _ inb_S2x128x128_S1x128x128_0_0_0 rfl rfl rfl (fun e q => (valsA_apply _ _ _ e q).trans ?_) x
      exact congrArg (fun r => rowMul (unit (iblk m c 0 t) (iblk m c 1 t) r) _ _) (Fin.ext (by show q.val = 0 * 128 + q.val; omega))
  rw [e]
  funext y
  obtain ⟨b, e, j, rfl⟩ : ∃ (b : Fin 2) (e : Fin 128) (j : Fin 128), y = ix3 b e j := ⟨y 0, y 1, y 2, eq_ix3 y⟩
  show valsBlock m c t (ix3 b e j) = vals (H m c) (G m c) (W m c) ((win0_12.blk t).view.emb (ix3 b e j))
  rw [emb_12]
  rfl

end Cert.Proof.Proj

end
-- ==== Proof.ProjRef.lean ====
/-
  The reference of the input projection: each of its seven results in the words of `ProjSpec`.
-/
module

public import proofs.«01_k».proof.Proof.ProjSpec
public import proofs.«01_k».proof.Proof.Gen.Reference5Ideal.Read

@[expose] public section

noncomputable section

namespace Cert.Proof.Proj

open Idealize.ShloMosaic Idealize.ShloMosaic.TcCoe Idealize.SL.Sem Cert.Proof.Rows
open Cert.Reference5Ideal Cert.Reference5Ideal.Read
open scoped BigOperators

variable (h : S4x8192x1024.Idx → EReal) (g : S1x1024.Idx → EReal) (w : S1x1024x4040.Idx → EReal)

/-- The product before it is split. -/
theorem v15_apply (b : Fin 4) (t : Fin 8192) (j : Fin 4040) :
    val_main_v15 (F := Ideal) h g w (ix3 b t j) = at_ h g w b t j := by
  pointwise [val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

/-- The same at a row of the flattened token axis, from the coordinates' values. -/
theorem v15_col (b : Fin 4) (t : Fin 8192) (j : Fin 4040) (r : Fin 32768) (j' : Fin 4040) (hb : b.val = r.val / 8192)
    (ht : t.val = r.val % 8192) (hj : j.val = j'.val) : val_main_v15 (F := Ideal) h g w (ix3 b t j) = col h g w r j' := by
  rw [v15_apply, show b = bat r.val r.isLt from Fin.ext hb, show t = tim r.val from Fin.ext ht, show j = j' from Fin.ext hj]
  rfl

/-- The queries of the sliding window. -/
theorem v54_eq : val_main_v54 (F := Ideal) h g w = heads h g w 0 (by decide) := by
  funext i
  obtain ⟨r, e, j, rfl⟩ : ∃ (r : Fin 256) (e : Fin 128) (j : Fin 1024), i = ix3 r e j := ⟨i 0, i 1, i 2, eq_ix3 i⟩
  pointwise [val_main_v54, val_main_v53, val_main_v31, val_main_v30, val_main_v29, val_main_v28, val_main_v27, val_main_cst_2, val_main_v16, val_main_call0_v0, val_main_c]
  refine dite_congr (propext ⟨fun x => x.1, fun x => ⟨x, by omega, by omega⟩⟩) (fun he => ?_) (fun _ => pad_zero)
  refine congrArg (· * Ideal.ofBits .f32 0x3E000000#32) (v15_col h g w _ _ _ _ _ ?_ ?_ ?_)
  · show r.val / 64 = (r.val * 128 + j.val % 128) / 8192; omega
  · show r.val % 64 * 128 + j.val % 128 = (r.val * 128 + j.val % 128) % 8192; omega
  · show j.val / 128 * 64 + e.val = 0 + (j.val / 128 * 64 + e.val); omega

/-- The queries of the indexer. -/
theorem v59_eq : val_main_v59 (F := Ideal) h g w = heads h g w 1408 (by decide) := by
  funext i
  obtain ⟨r, e, j, rfl⟩ : ∃ (r : Fin 256) (e : Fin 128) (j : Fin 1024), i = ix3 r e j := ⟨i 0, i 1, i 2, eq_ix3 i⟩
  pointwise [val_main_v59, val_main_v58, val_main_v36, val_main_v35, val_main_v34, val_main_v33, val_main_v32, val_main_cst_3, val_main_v22, val_main_call1_v0, val_main_c_4]
  refine dite_congr (propext ⟨fun x => x.1, fun x => ⟨x, by omega, by omega⟩⟩) (fun he => ?_) (fun _ => pad_zero)
  refine congrArg (· * Ideal.ofBits .f32 0x3E000000#32) (v15_col h g w _ _ _ _ _ ?_ ?_ ?_)
  · show r.val / 64 = (r.val * 128 + j.val % 128) / 8192; omega
  · show r.val % 64 * 128 + j.val % 128 = (r.val * 128 + j.val % 128) % 8192; omega
  · rfl

/-- The keys of the sliding window. -/
theorem v56_eq : val_main_v56 (F := Ideal) h g w = keys h g w := by
  funext i
  obtain ⟨r, j, rfl⟩ : ∃ (r : Fin 32768) (j : Fin 256), i = ix2 r j := ⟨i 0, i 1, eq_ix2 i⟩
  pointwise [val_main_v56, val_main_v55, val_main_v38, val_main_v37, val_main_v17, val_main_call2_v0, val_main_c_5]
  exact dite_congr (propext ⟨fun x => x.2, fun x => ⟨by omega, x⟩⟩) (fun he => v15_col h g w _ _ _ _ _ rfl rfl rfl)
    (fun _ => pad_zero)

/-- The values of the sliding window. -/
theorem v57_eq : val_main_v57 (F := Ideal) h g w = vals h g w := by
  funext i
  obtain ⟨r, e, j, rfl⟩ : ∃ (r : Fin 256) (e : Fin 128) (j : Fin 128), i = ix3 r e j := ⟨i 0, i 1, i 2, eq_ix3 i⟩
  pointwise [val_main_v57, val_main_v42, val_main_v41, val_main_v18]
  refine v15_col h g w _ _ _ _ _ ?_ ?_ rfl
  · show r.val / 64 = (r.val * 128 + j.val) / 8192; omega
  · show r.val % 64 * 128 + j.val = (r.val * 128 + j.val) % 8192; omega

/-- The keys of the indexer. -/
theorem v60_eq : val_main_v60 (F := Ideal) h g w = lanes h g w 1920 64 (by decide) := by
  funext i
  obtain ⟨r, j, rfl⟩ : ∃ (r : Fin 32768) (j : Fin 128), i = ix2 r j := ⟨i 0, i 1, eq_ix2 i⟩
  pointwise [val_main_v60, val_main_v40, val_main_v39, val_main_v23, val_main_call3_v0, val_main_c_6]
  exact dite_congr rfl (fun he => v15_col h g w _ _ _ _ _ rfl rfl rfl) (fun _ => pad_zero)

/-- The weights of the indexer's heads. -/
theorem v44_eq : val_main_v44 (F := Ideal) h g w = lanes h g w 1984 8 (by decide) := by
  funext i
  obtain ⟨r, j, rfl⟩ : ∃ (r : Fin 32768) (j : Fin 128), i = ix2 r j := ⟨i 0, i 1, eq_ix2 i⟩
  pointwise [val_main_v44, val_main_v43, val_main_v24, val_main_call4_v0, val_main_c_7]
  exact dite_congr rfl (fun he => v15_col h g w _ _ _ _ _ rfl rfl rfl) (fun _ => pad_zero)

/-- The gates. -/
theorem v52_eq : val_main_v52 (F := Ideal) h g w = gates h g w := by
  funext i
  obtain ⟨r, j, rfl⟩ : ∃ (r : Fin 32768) (j : Fin 2048), i = ix2 r j := ⟨i 0, i 1, eq_ix2 i⟩
  pointwise [val_main_v52, val_main_v51, val_main_v50, val_main_cst_9, val_main_v49, val_main_v48, val_main_cst_8, val_main_v47, val_main_v46, val_main_v45, val_main_v26, val_main_v25]
  show Ideal.logistic _ = Ideal.logistic _
  refine congrArg Ideal.logistic ?_
  split
  · exact v15_col h g w _ _ _ _ _ rfl rfl rfl
  · refine v15_col h g w _ _ _ _ _ rfl rfl ?_
    show 3016 + (j.val - 1024) = 1992 + j.val
    omega

end Cert.Proof.Proj

end
-- ==== Proof.Proj.lean ====
/-
  The input projection: every token's RMS norm times the weights, the columns laid out as the attention reads them.
-/
module

public import proofs.«01_k».proof.Proof.ProjArr
public import proofs.«01_k».proof.Proof.ProjRef
public import proofs.«01_k».proof.Defs

@[expose] public section

noncomputable section

namespace Cert.Proof.Proj

open Idealize.ShloMosaic Idealize.ShloMosaic.TcCoe Idealize.SL.Sem Cert.Kernel5Ideal Cert.Kernel5Ideal.Gen

/-- The value claim of the input projection: kernel and reference end with equal arrays, seven of the call's ten. -/
theorem value : Cert.algebraic_Kernel5Ideal_Reference5Ideal := by
  intro m g m' g' _ hagree
  refine ⟨fun c => heads (H m c) (G m c) (W m c) 0 (by decide), fun c => keys (H m c) (G m c) (W m c),
    fun c => vals (H m c) (G m c) (W m c), fun c => heads (H m c) (G m c) (W m c) 1408 (by decide),
    fun c => lanes (H m c) (G m c) (W m c) 1920 64 (by decide), fun c => lanes (H m c) (G m c) (W m c) 1984 8 (by decide),
    fun c => gates (H m c) (G m c) (W m c), (θ_run _ _ _).mono (fun _ h c => ?_) (Cert.Kernel5Ideal.Value.run_blocks m g),
    (θ_run _ _ _).mono (fun _ h c => ?_) (Cert.Reference5Ideal.Value.run m' g')⟩
  · obtain ⟨h0, h1, h2, h3, _, h5, _, _, h8, h9, ha⟩ := h c
    exact ⟨h0.trans (final_10 m c), h1.trans (final_11 m c), h2.trans (final_12 m c), h3.trans (final_13 m c),
      h5.trans (final_15 m c), h8.trans (final_18 m c), h9.trans (final_19 m c), ha⟩
  · obtain ⟨h0, h1, h2, h3, h4, h5, h6, ha⟩ := h c
    rw [Cert.Reference5Ideal.Read.val_main_v54_eq, (hagree c).1, (hagree c).2.1, (hagree c).2.2] at h0
    rw [Cert.Reference5Ideal.Read.val_main_v56_eq, (hagree c).1, (hagree c).2.1, (hagree c).2.2] at h1
    rw [Cert.Reference5Ideal.Read.val_main_v57_eq, (hagree c).1, (hagree c).2.1, (hagree c).2.2] at h2
    rw [Cert.Reference5Ideal.Read.val_main_v59_eq, (hagree c).1, (hagree c).2.1, (hagree c).2.2] at h3
    rw [Cert.Reference5Ideal.Read.val_main_v60_eq, (hagree c).1, (hagree c).2.1, (hagree c).2.2] at h4
    rw [Cert.Reference5Ideal.Read.val_main_v44_eq, (hagree c).1, (hagree c).2.1, (hagree c).2.2] at h5
    rw [Cert.Reference5Ideal.Read.val_main_v52_eq, (hagree c).1, (hagree c).2.1, (hagree c).2.2] at h6
    exact ⟨h0.trans (v54_eq _ _ _), h1.trans (v56_eq _ _ _), h2.trans (v57_eq _ _ _), h3.trans (v59_eq _ _ _),
      h4.trans (v60_eq _ _ _), h5.trans (v44_eq _ _ _), h6.trans (v52_eq _ _ _), ha⟩

end Cert.Proof.Proj

end
-- ==== Proof.SwaBlock.lean ====
/-
  The sliding-window kernel's block, as functions of its vectors: the logits of a head, the weights of a head, the
  mixture of a group, and the row of the block. The printed payloads of both blocks of a grid point are these functions.
-/
module

public import proofs.«01_k».proof.Proof.Softmax
public import proofs.«01_k».proof.Proof.Gen.KernelIdeal.Skeleton

@[expose] public section

noncomputable section

namespace Cert.Proof.SwaBlock

open Idealize.ShloMosaic Idealize.ShloMosaic.TcCoe Idealize.SL.Sem Cert.Proof.Softmax
open scoped BigOperators
open Cert.KernelIdeal Cert.KernelIdeal.Gen

variable {F : FTy → Type} [FloatOps F] [Named F]

/-- The slopes of the eight heads, as the kernel spells them. -/
def slope (F : FTy → Type) [FloatOps F] [Named F] : Fin 8 → F .f32
  | 0 => Named.named κ "slope1" 0x3F3504F3#32
  | 1 => Scalar.ofBits .f32 0x3F000000#32
  | 2 => Named.named κ "slope3" 0x3EB504F3#32
  | 3 => Scalar.ofBits .f32 0x3E800000#32
  | 4 => Named.named κ "slope5" 0x3E3504F3#32
  | 5 => Scalar.ofBits .f32 0x3E000000#32
  | 6 => Named.named κ "slope7" 0x3DB504F3#32
  | 7 => Scalar.ofBits .f32 0x3D800000#32

/-- A head's logits, merged over the two blocks: the current block's where the key is not after the query, else the
    block's before. -/
def logits (sl bias : F .f32) (sc sp : FVec F S128x128 .f32) : FVec F S128x128 .f32 :=
  select k0_pay7 (subf sc (mulf (broadcast S128x128 sl) (k0_pay8 (F := F))))
    (addf (subf sp (mulf (broadcast S128x128 sl) (k0_pay9 (F := F)))) (broadcast S128x128 bias))

/-- The greatest logit of each query, and the sink. -/
def tops (s : FVec F S128x128 .f32) (sink : F .f32) : FVec F S1x128 .f32 :=
  maximumf (shapeCast S1x128 (multiReduction .maximumf [0] S128 s 0xFF800000#32 reduces_S128x128_S128 (.inl rfl) rfl)
    shapeCasts_S128_S1x128) (broadcast S1x128 sink)

/-- The exponentials under the greatest. -/
def exps (s : FVec F S128x128 .f32) (sink : F .f32) : FVec F S128x128 .f32 :=
  exp (subf s (broadcastTo S128x128 (tops s sink) broadcasts_S1x128_S128x128))

/-- The weights of each query over the merged keys. -/
def weights (s : FVec F S128x128 .f32) (sink : F .f32) : FVec F S128x128 .f32 :=
  divf (exps s sink) (broadcastTo S128x128 (addf
    (shapeCast S1x128 (multiReduction .add [0] S128 (exps s sink) 0x00000000#32 reduces_S128x128_S128 (.inl rfl) rfl)
      shapeCasts_S128_S1x128)
    (exp (subf (broadcast S1x128 sink) (tops s sink)))) broadcasts_S1x128_S128x128)

/-- The weights spread over the two blocks' keys. -/
def spread (p : FVec F S128x128 .f32) : FVec F S256x128 .bf16 :=
  truncf .bf16 (concatenate S256x128 0
    [⟨S128x128, select k0_pay7 (broadcast S128x128 (Scalar.ofBits .f32 0x00000000#32)) p⟩,
     ⟨S128x128, select k0_pay7 p (broadcast S128x128 (Scalar.ofBits .f32 0x00000000#32))⟩]
    concatenates_S128x128_S128x128_S256x128_d0) bitsLt_bf16_f32

/-- Head `4 g + r`, the `r`-th of group `g`. -/
def hd (g : Fin 2) (r : Fin 4) : Fin 8 := ⟨4 * g.val + r.val, by omega⟩

/-- The keys of a group's key head. -/
def keys (k : FVec F S128x256 .bf16) : Fin 2 → FVec F S128x128 .bf16
  | 0 => extractStridedSlice S128x128 ![0, 0] k slices_S128x256_o0_0_S128x128
  | 1 => extractStridedSlice S128x128 ![0, 128] k slices_S128x256_o0_128_S128x128

/-- The queries of a group's four heads. -/
def queries (q : FVec F S128x1024 .bf16) : Fin 2 → FVec F S128x512 .bf16
  | 0 => extractStridedSlice S128x512 ![0, 0] q slices_S128x1024_o0_0_S128x512
  | 1 => extractStridedSlice S128x512 ![0, 512] q slices_S128x1024_o0_512_S128x512

/-- The values of a group's key head. -/
def values (v : FVec F S128x128 .bf16) : Fin 2 → FVec F S64x128 .bf16
  | 0 => extractStridedSlice S64x128 ![0, 0] v slices_S128x128_o0_0_S64x128
  | 1 => extractStridedSlice S64x128 ![64, 0] v slices_S128x128_o64_0_S64x128

/-- The scores of a group: the keys of both blocks by the queries of the group's four heads. -/
def scores (kp kc : FVec F S128x128 .bf16) (q : FVec F S128x512 .bf16) : FVec F S256x512 .f32 :=
  matmul dot_S256x128_S128x512_S256x512_1_0_0_1_n_n none
    (concatenate S256x128 0 [⟨S128x128, kp⟩, ⟨S128x128, kc⟩] concatenates_S128x128_S128x128_S256x128_d0)
    q (constant S256x512 .f32 0x00000000#32)

/-- The scores of the block before, of a group's `r`-th head. -/
def before (s : FVec F S256x512 .f32) : Fin 4 → FVec F S128x128 .f32
  | 0 => extractStridedSlice S128x128 ![0, 0] s slices_S256x512_o0_0_S128x128
  | 1 => extractStridedSlice S128x128 ![0, 128] s slices_S256x512_o0_128_S128x128
  | 2 => extractStridedSlice S128x128 ![0, 256] s slices_S256x512_o0_256_S128x128
  | 3 => extractStridedSlice S128x128 ![0, 384] s slices_S256x512_o0_384_S128x128

/-- The scores of the current block, of a group's `r`-th head. -/
def current (s : FVec F S256x512 .f32) : Fin 4 → FVec F S128x128 .f32
  | 0 => extractStridedSlice S128x128 ![128, 0] s slices_S256x512_o128_0_S128x128
  | 1 => extractStridedSlice S128x128 ![128, 128] s slices_S256x512_o128_128_S128x128
  | 2 => extractStridedSlice S128x128 ![128, 256] s slices_S256x512_o128_256_S128x128
  | 3 => extractStridedSlice S128x128 ![128, 384] s slices_S256x512_o128_384_S128x128

/-- The weights of a group's `r`-th head, from the group's scores. -/
def head (sl bias sink : F .f32) (s : FVec F S256x512 .f32) (r : Fin 4) : FVec F S256x128 .bf16 :=
  spread (weights (logits sl bias (current s r) (before s r)) sink)

/-- The mixtures of a group's four heads, transposed, side by side. -/
def mixT (vp vc : FVec F S64x128 .bf16) (p : Fin 4 → FVec F S256x128 .bf16) : FVec F S64x512 .f32 :=
  matmul dot_S64x256_S256x512_S64x512_1_0_0_1_n_n none
    (concatenate S64x256 1 [⟨S64x128, vp⟩, ⟨S64x128, vc⟩] concatenates_S64x128_S64x128_S64x256_d1)
    (concatenate S256x512 1 [⟨S256x128, p 0⟩, ⟨S256x128, p 1⟩, ⟨S256x128, p 2⟩, ⟨S256x128, p 3⟩]
      concatenates_S256x128_S256x128_S256x128_S256x128_S256x512_d1) (constant S64x512 .f32 0x00000000#32)

/-- The rows of a group's first two heads. -/
def pairA (o : FVec F S64x512 .f32) : FVec F S128x128 .f32 :=
  transpose S128x128 [1, 0] (concatenate S128x128 0
    [⟨S64x128, extractStridedSlice S64x128 ![0, 0] o slices_S64x512_o0_0_S64x128⟩,
     ⟨S64x128, extractStridedSlice S64x128 ![0, 128] o slices_S64x512_o0_128_S64x128⟩] concatenates_S64x128_S64x128_S128x128_d0)
    transposes_S128x128_p1_0_S128x128

/-- The rows of a group's last two heads. -/
def pairB (o : FVec F S64x512 .f32) : FVec F S128x128 .f32 :=
  transpose S128x128 [1, 0] (concatenate S128x128 0
    [⟨S64x128, extractStridedSlice S64x128 ![0, 256] o slices_S64x512_o0_256_S64x128⟩,
     ⟨S64x128, extractStridedSlice S64x128 ![0, 384] o slices_S64x512_o0_384_S64x128⟩] concatenates_S64x128_S64x128_S128x128_d0)
    transposes_S128x128_p1_0_S128x128

/-- The block's rows: the four pairs side by side. -/
def rows (o : Fin 2 → FVec F S64x512 .f32) : FVec F S1x128x512 .bf16 :=
  shapeCast S1x128x512 (truncf .bf16 (concatenate S128x512 1 [⟨S128x128, pairA (o 0)⟩, ⟨S128x128, pairB (o 0)⟩,
    ⟨S128x128, pairA (o 1)⟩, ⟨S128x128, pairB (o 1)⟩] concatenates_S128x128_S128x128_S128x128_S128x128_S128x512_d1) bitsLt_bf16_f32)
    shapeCasts_S128x512_S1x128x512

/-- The block's rows, from what is loaded of each array. -/
def block (bias : F .f32) (sink : Fin 8 → F .f32) (kp kc : FVec F S128x256 .bf16) (q : FVec F S128x1024 .bf16)
    (vp vc : FVec F S128x128 .bf16) : FVec F S1x128x512 .bf16 :=
  rows fun g => mixT (values vp g) (values vc g) fun r =>
    head (slope F (hd g r)) bias (sink (hd g r)) (scores (keys kp g) (keys kc g) (queries q g)) r

end Cert.Proof.SwaBlock

end
-- ==== Proof.SwaRead.lean ====
/-
  The sliding-window kernel's block read at an index, over the extended reals.
-/
module

public import proofs.«01_k».proof.Proof.SwaBlock

@[expose] public section

noncomputable section

namespace Cert.Proof.SwaBlock

open Idealize.ShloMosaic Idealize.ShloMosaic.TcCoe Idealize.SL.Sem Cert.Proof.Softmax
open scoped BigOperators
open Cert.KernelIdeal Cert.KernelIdeal.Gen

theorem cmp_sle (j i : Fin 128) : (IntOp.cmpi .sle (BitVec.ofNat 32 j.val) (BitVec.ofNat 32 i.val) = 1#1) ↔ j ≤ i := by
  revert j i
  decide +kernel

/-- A small difference of indices as a 32-bit integer is that integer. -/
theorem sub_toInt : ∀ j i : Fin 128, (IntOp.subi (BitVec.ofNat 32 i.val) (BitVec.ofNat 32 j.val)).toInt = (i.val : ℤ) - j.val := by
  decide +kernel

theorem sub_add_toInt : ∀ j i : Fin 128,
    (IntOp.addi (IntOp.subi (BitVec.ofNat 32 i.val) (BitVec.ofNat 32 j.val)) 128#32).toInt = (i.val : ℤ) - j.val + 128 := by
  decide +kernel

/-- The mask: key `j` of the block is not after query `i`. -/
theorem lower_apply (j i : Fin 128) : (k0_pay7 (ix2 j i) = 1#1) ↔ j ≤ i := by
  unfold_payloads
  pointwise
  exact cmp_sle j i

theorem dcur_apply (j i : Fin 128) : k0_pay8 (F := Ideal) (ix2 j i) = (((i.val : ℤ) - j.val : ℤ) : ℝ) := by
  unfold_payloads
  pointwise
  rw [← sub_toInt]; rfl

theorem dprev_apply (j i : Fin 128) : k0_pay9 (F := Ideal) (ix2 j i) = (((i.val : ℤ) - j.val + 128 : ℤ) : ℝ) := by
  unfold_payloads
  pointwise
  rw [← sub_add_toInt]; rfl

theorem select_lower {α : Type} (j i : Fin 128) (a b : α) : Scalar.select (k0_pay7 (ix2 j i)) a b = if j ≤ i then a else b := by
  unfold Scalar.select
  by_cases h : j ≤ i
  · rw [if_pos h]; exact if_pos ((lower_apply j i).2 h)
  · rw [if_neg h]; exact if_neg fun e => h ((lower_apply j i).1 e)

/-- The merged logits of query `i`: current scores where the key is not after it, else the scores of the block before. -/
def merged (sl bias : EReal) (cur bef : Fin 128 → EReal) (i j : Fin 128) : EReal :=
  if j ≤ i then cur j - sl * (((i.val : ℤ) - j.val : ℤ) : ℝ) else bef j - sl * (((i.val : ℤ) - j.val + 128 : ℤ) : ℝ) + bias

theorem logits_apply (sl bias : EReal) (sc sp : S128x128.Idx → EReal) (j i : Fin 128) :
    logits (F := Ideal) sl bias sc sp (ix2 j i) = merged sl bias (fun j => sc (ix2 j i)) (fun j => sp (ix2 j i)) i j := by
  unfold logits
  pointwise
  rw [select_lower, dcur_apply, dprev_apply]
  rfl

theorem ofBits_bot : Ideal.ofBits .f32 0xFF800000#32 = ⊥ := by simp [Ideal.ofBits, Ideal.ieee]

theorem tops_apply (s : S128x128.Idx → EReal) (sink : EReal) (i : Fin 128) :
    tops (F := Ideal) s sink (ix2 0 i) = top (fun j => s (ix2 j i)) sink := by
  unfold tops
  pointwise
  rw [show (4286578688#32 : BitVec 32) = 0xFF800000#32 from rfl, ofBits_bot]
  rfl

theorem exps_apply (s : S128x128.Idx → EReal) (sink : EReal) (j i : Fin 128) :
    exps (F := Ideal) s sink (ix2 j i) = Ideal.exp (s (ix2 j i) - top (fun j => s (ix2 j i)) sink) := by
  unfold exps
  pointwise
  rw [tops_apply]

theorem weights_apply (s : S128x128.Idx → EReal) (sink : EReal) (j i : Fin 128) :
    weights (F := Ideal) s sink (ix2 j i) = prob (fun j => s (ix2 j i)) sink j := by
  unfold weights
  pointwise
  simp only [tops_apply, exps_apply]
  rfl

theorem spread_lo (p : S128x128.Idx → EReal) (j i : Fin 128) :
    spread (F := Ideal) p (ix2 (⟨j.val, by omega⟩ : Fin 256) i) = if j ≤ i then 0 else p (ix2 j i) := by
  unfold spread
  pointwise
  exact select_lower j i _ _

theorem spread_hi (p : S128x128.Idx → EReal) (j i : Fin 128) :
    spread (F := Ideal) p (ix2 (⟨128 + j.val, by omega⟩ : Fin 256) i) = if j ≤ i then p (ix2 j i) else 0 := by
  unfold spread
  pointwise
  exact select_lower j i _ _

theorem before_apply (s : S256x512.Idx → EReal) (r : Fin 4) (j i : Fin 128) :
    before (F := Ideal) s r (ix2 j i) = s (ix2 (⟨j.val, by omega⟩ : Fin 256) (⟨128 * r.val + i.val, by omega⟩ : Fin 512)) := by
  fin_cases r <;>
  · unfold before
    pointwise

theorem current_apply (s : S256x512.Idx → EReal) (r : Fin 4) (j i : Fin 128) :
    current (F := Ideal) s r (ix2 j i) = s (ix2 (⟨128 + j.val, by omega⟩ : Fin 256) (⟨128 * r.val + i.val, by omega⟩ : Fin 512)) := by
  fin_cases r <;>
  · unfold current
    pointwise

theorem keys_apply (k : S128x256.Idx → EReal) (g : Fin 2) (j e : Fin 128) :
    keys (F := Ideal) k g (ix2 j e) = k (ix2 j (⟨128 * g.val + e.val, by omega⟩ : Fin 256)) := by
  fin_cases g <;>
  · unfold keys
    pointwise

theorem queries_apply (q : S128x1024.Idx → EReal) (g : Fin 2) (e : Fin 128) (x : Fin 512) :
    queries (F := Ideal) q g (ix2 e x) = q (ix2 e (⟨512 * g.val + x.val, by omega⟩ : Fin 1024)) := by
  fin_cases g <;>
  · unfold queries
    pointwise

theorem values_apply (v : S128x128.Idx → EReal) (g : Fin 2) (d : Fin 64) (j : Fin 128) :
    values (F := Ideal) v g (ix2 d j) = v (ix2 (⟨64 * g.val + d.val, by omega⟩ : Fin 128) j) := by
  fin_cases g <;>
  · unfold values
    pointwise

theorem scores_lo (kp kc : S128x128.Idx → EReal) (q : S128x512.Idx → EReal) (j : Fin 128) (x : Fin 512) :
    scores (F := Ideal) kp kc q (ix2 (⟨j.val, by omega⟩ : Fin 256) x) = ∑ e : Fin 128, kp (ix2 j e) * q (ix2 e x) := by
  unfold scores
  pointwise

theorem scores_hi (kp kc : S128x128.Idx → EReal) (q : S128x512.Idx → EReal) (j : Fin 128) (x : Fin 512) :
    scores (F := Ideal) kp kc q (ix2 (⟨128 + j.val, by omega⟩ : Fin 256) x) = ∑ e : Fin 128, kc (ix2 j e) * q (ix2 e x) := by
  unfold scores
  pointwise

theorem mixT_apply (vp vc : S64x128.Idx → EReal) (p : Fin 4 → S256x128.Idx → EReal) (d : Fin 64) (r : Fin 4) (i : Fin 128) :
    mixT (F := Ideal) vp vc p (ix2 d (⟨128 * r.val + i.val, by omega⟩ : Fin 512))
      = ∑ j : Fin 128, (vp (ix2 d j) * p r (ix2 (⟨j.val, by omega⟩ : Fin 256) i)
          + vc (ix2 d j) * p r (ix2 (⟨128 + j.val, by omega⟩ : Fin 256) i)) := by
  generalize hx : (⟨128 * r.val + i.val, by omega⟩ : Fin 512) = x
  have hx' : x.val = 128 * r.val + i.val := by rw [← hx]
  unfold mixT
  pointwise
  rw [← Finset.sum_add_distrib]
  refine Finset.sum_congr rfl fun j _ => ?_
  fin_cases r
  all_goals
    dsimp only at hx'
    split_ifs
    all_goals first
      | (exfalso; omega)
      | (congr 5 <;> omega)

/-- Column `64 h + d` of the block's row is lane `d` of head `h`. -/
theorem rows_apply (o : Fin 2 → S64x512.Idx → EReal) (i : Fin 128) (g : Fin 2) (r : Fin 4) (d : Fin 64) :
    rows (F := Ideal) o (ix3 0 i (⟨64 * (hd g r).val + d.val, by have := (hd g r).isLt; omega⟩ : Fin 512))
      = o g (ix2 d (⟨128 * r.val + i.val, by omega⟩ : Fin 512)) := by
  generalize hx : (⟨64 * (hd g r).val + d.val, _⟩ : Fin 512) = x
  have hx' : x.val = 64 * (4 * g.val + r.val) + d.val := by rw [← hx]; rfl
  unfold rows pairA pairB
  pointwise
  fin_cases g <;> fin_cases r
  all_goals
    dsimp only at hx'
    split_ifs
    all_goals first
      | (exfalso; omega)
      | (refine congrArg _ (congrArg₂ ix2 (Fin.ext ?_) (Fin.ext ?_)) <;> dsimp only <;> omega)

/-- The score of key `j` of a block against query `i` of head `h = 4 g + r`. -/
def score (k : S128x256.Idx → EReal) (q : S128x1024.Idx → EReal) (g : Fin 2) (r : Fin 4) (i j : Fin 128) : EReal :=
  ∑ e : Fin 128, k (ix2 j (⟨128 * g.val + e.val, by omega⟩ : Fin 256))
    * q (ix2 e (⟨512 * g.val + (128 * r.val + i.val), by omega⟩ : Fin 1024))

theorem head_lo (sl bias sink : EReal) (s : S256x512.Idx → EReal) (r : Fin 4) (j i : Fin 128) :
    head (F := Ideal) sl bias sink s r (ix2 (⟨j.val, by omega⟩ : Fin 256) i)
      = if j ≤ i then 0 else prob (merged sl bias
          (fun j => s (ix2 (⟨128 + j.val, by omega⟩ : Fin 256) (⟨128 * r.val + i.val, by omega⟩ : Fin 512)))
          (fun j => s (ix2 (⟨j.val, by omega⟩ : Fin 256) (⟨128 * r.val + i.val, by omega⟩ : Fin 512))) i) sink j := by
  unfold head
  rw [spread_lo, weights_apply]
  simp only [logits_apply, current_apply, before_apply]

theorem head_hi (sl bias sink : EReal) (s : S256x512.Idx → EReal) (r : Fin 4) (j i : Fin 128) :
    head (F := Ideal) sl bias sink s r (ix2 (⟨128 + j.val, by omega⟩ : Fin 256) i)
      = if j ≤ i then prob (merged sl bias
          (fun j => s (ix2 (⟨128 + j.val, by omega⟩ : Fin 256) (⟨128 * r.val + i.val, by omega⟩ : Fin 512)))
          (fun j => s (ix2 (⟨j.val, by omega⟩ : Fin 256) (⟨128 * r.val + i.val, by omega⟩ : Fin 512))) i) sink j else 0 := by
  unfold head
  rw [spread_hi, weights_apply]
  simp only [logits_apply, current_apply, before_apply]

/-- Lane `d` of head `4 g + r` in row `i` of the block: the values of the two blocks, mixed by the softmax of the merged
    logits, each weight at the block its key lies in. -/
theorem block_apply (bias : EReal) (sink : Fin 8 → EReal) (kp kc : S128x256.Idx → EReal) (q : S128x1024.Idx → EReal)
    (vp vc : S128x128.Idx → EReal) (g : Fin 2) (r : Fin 4) (i : Fin 128) (d : Fin 64) :
    block (F := Ideal) bias sink kp kc q vp vc (ix3 0 i (⟨64 * (hd g r).val + d.val, by have := (hd g r).isLt; omega⟩ : Fin 512))
      = ∑ j : Fin 128, (vp (ix2 (⟨64 * g.val + d.val, by omega⟩ : Fin 128) j)
            * (if j ≤ i then 0 else prob (merged (slope Ideal (hd g r)) bias (score kc q g r i) (score kp q g r i) i) (sink (hd g r)) j)
          + vc (ix2 (⟨64 * g.val + d.val, by omega⟩ : Fin 128) j)
            * (if j ≤ i then prob (merged (slope Ideal (hd g r)) bias (score kc q g r i) (score kp q g r i) i) (sink (hd g r)) j else 0)) := by
  unfold block
  rw [rows_apply, mixT_apply]
  simp only [head_lo, head_hi, values_apply, scores_lo, scores_hi, keys_apply, queries_apply]
  rfl

end Cert.Proof.SwaBlock

end
-- ==== Proof.SwaOut.lean ====
/-
  What one grid point of the sliding-window kernel leaves in its output block: two stores, each a block of 128 rows
  computed from what is loaded of the point's input blocks.
-/
module

public import proofs.«01_k».proof.Proof.SwaRead
public import proofs.«01_k».proof.Proof.Gen.KernelIdeal.Value

@[expose] public section

noncomputable section

namespace Cert.Proof.Swa

open Idealize.ShloMosaic Idealize.ShloMosaic.TcCoe Idealize.SL.Sem Cert.Proof.SwaBlock
open Cert.KernelIdeal Cert.KernelIdeal.Gen

section Pieces

variable {F : FTy → Type} [FloatOps F] [Named F]

/-- The sinks, each loaded by itself. -/
def sinks (x0 : Vec F S8 .f32) : Fin 8 → F .f32
  | 0 => View.ld (Val := Elt F) x0 (Rect.unit ![0] S1.size inb_S8_S1_0) (Shape.Idx.first (by decide))
  | 1 => View.ld (Val := Elt F) x0 (Rect.unit ![1] S1.size inb_S8_S1_1) (Shape.Idx.first (by decide))
  | 2 => View.ld (Val := Elt F) x0 (Rect.unit ![2] S1.size inb_S8_S1_2) (Shape.Idx.first (by decide))
  | 3 => View.ld (Val := Elt F) x0 (Rect.unit ![3] S1.size inb_S8_S1_3) (Shape.Idx.first (by decide))
  | 4 => View.ld (Val := Elt F) x0 (Rect.unit ![4] S1.size inb_S8_S1_4) (Shape.Idx.first (by decide))
  | 5 => View.ld (Val := Elt F) x0 (Rect.unit ![5] S1.size inb_S8_S1_5) (Shape.Idx.first (by decide))
  | 6 => View.ld (Val := Elt F) x0 (Rect.unit ![6] S1.size inb_S8_S1_6) (Shape.Idx.first (by decide))
  | 7 => View.ld (Val := Elt F) x0 (Rect.unit ![7] S1.size inb_S8_S1_7) (Shape.Idx.first (by decide))

/-- The first 128 rows of point `i`'s output block. -/
def rowsA (i : grid0.Coords) (x0 : Vec F S8 .f32) (x1 : Vec F S1x2x128x1024 .bf16) (x2 : Vec F S1x128x256 .bf16)
    (x3 : Vec F S1x256x256 .bf16) (x4 : Vec F S1x1x128x128 .bf16) (x5 : Vec F S1x2x128x128 .bf16) : FVec F S1x128x512 .bf16 :=
  block (k0_pay10 i) (sinks x0)
    (k0_pay2 (View.ld (Val := Elt F) x2 (Rect.unit ![0, 0, 0] S1x128x256.size inb_S1x128x256_S1x128x256_0_0_0)))
    (k0_pay5 (View.ld (Val := Elt F) x3 (Rect.unit ![0, 0, 0] S1x128x256.size inb_S1x256x256_S1x128x256_0_0_0)))
    (k0_pay4 (View.ld (Val := Elt F) x1 (Rect.unit ![0, 0, 0, 0] S1x1x128x1024.size inb_S1x2x128x1024_S1x1x128x1024_0_0_0_0)))
    (k0_pay3 (View.ld (Val := Elt F) x4 (Rect.unit ![0, 0, 0, 0] S1x1x128x128.size inb_S1x1x128x128_S1x1x128x128_0_0_0_0)))
    (k0_pay6 (View.ld (Val := Elt F) x5 (Rect.unit ![0, 0, 0, 0] S1x1x128x128.size inb_S1x2x128x128_S1x1x128x128_0_0_0_0)))

/-- The last 128 rows of the output block. -/
def rowsB (x0 : Vec F S8 .f32) (x1 : Vec F S1x2x128x1024 .bf16)
    (x3 : Vec F S1x256x256 .bf16) (x5 : Vec F S1x2x128x128 .bf16) : FVec F S1x128x512 .bf16 :=
  block k0_pay53 (sinks x0)
    (k0_pay45 (View.ld (Val := Elt F) x3 (Rect.unit ![0, 0, 0] S1x128x256.size inb_S1x256x256_S1x128x256_0_0_0)))
    (k0_pay48 (View.ld (Val := Elt F) x3 (Rect.unit ![0, 128, 0] S1x128x256.size inb_S1x256x256_S1x128x256_0_128_0)))
    (k0_pay47 (View.ld (Val := Elt F) x1 (Rect.unit ![0, 1, 0, 0] S1x1x128x1024.size inb_S1x2x128x1024_S1x1x128x1024_0_1_0_0)))
    (k0_pay46 (View.ld (Val := Elt F) x5 (Rect.unit ![0, 0, 0, 0] S1x1x128x128.size inb_S1x2x128x128_S1x1x128x128_0_0_0_0)))
    (k0_pay49 (View.ld (Val := Elt F) x5 (Rect.unit ![0, 1, 0, 0] S1x1x128x128.size inb_S1x2x128x128_S1x1x128x128_0_1_0_0)))

/-- The two stores of a point, last first. -/
theorem out_eq (c : Dev nD) (i : grid0.Coords) (arg2 : Memref sig .tc .smem S8 .f32) (harg2 : arg2.IsWhole) (arg3 : Memref sig .tc .vmem S1x2x128x1024 .bf16) (harg3 : arg3.IsWhole) (arg4 : Memref sig .tc .vmem S1x128x256 .bf16) (harg4 : arg4.IsWhole) (arg5 : Memref sig .tc .vmem S1x256x256 .bf16) (harg5 : arg5.IsWhole) (arg6 : Memref sig .tc .vmem S1x1x128x128 .bf16) (harg6 : arg6.IsWhole) (arg7 : Memref sig .tc .vmem S1x2x128x128 .bf16) (harg7 : arg7.IsWhole) (arg8 : Memref sig .tc .vmem S1x256x512 .bf16) (harg8 : arg8.IsWhole)
    (x0 : Vec F S8 .f32) (x1 : Vec F S1x2x128x1024 .bf16) (x2 : Vec F S1x128x256 .bf16) (x3 : Vec F S1x256x256 .bf16) (x4 : Vec F S1x1x128x128 .bf16) (x5 : Vec F S1x2x128x128 .bf16) :
    out0_A_6 c i arg2 harg2 arg3 harg3 arg4 harg4 arg5 harg5 arg6 harg6 arg7 harg7 arg8 harg8 x0 x1 x2 x3 x4 x5
      = VO0_6.read (Elt F) (VO0_6.writes (Elt F) VO0_6.junk
        [⟨Rect.unit ![0, 128, 0] S1x128x512.size inb_S1x256x512_S1x128x512_0_128_0, rowsB x0 x1 x3 x5⟩,
          ⟨Rect.unit ![0, 0, 0] S1x128x512.size inb_S1x256x512_S1x128x512_0_0_0, rowsA i x0 x1 x2 x3 x4 x5⟩]) := by
  unfold out0_A_6
  unfold kernelRun0_A
  dsimp only
  sl_unfold_words
  simp only [View.readAt_eq_ld, Memref.IsWhole.read_unread]
  rfl

end Pieces

end Cert.Proof.Swa

end
-- ==== Proof.SwaMask.lean ====
/-
  The windows of the reference's attention: the keys, the values, the mask and the distances of a query's window of 256
  keys, read at an index over the extended reals.
-/
module

public import proofs.«01_k».proof.Proof.Softmax
public import proofs.«01_k».proof.Proof.Gen.ReferenceIdeal.Read
public import Idealize.ShloMosaic.Lib.Pointwise

@[expose] public section

noncomputable section

namespace Cert.Proof.SwaRef

open Idealize.ShloMosaic Idealize.ShloMosaic.TcCoe Idealize.SL.Sem Idealize.ShloMosaic.StableHlo Cert.Proof.Softmax
open scoped BigOperators
open Cert.ReferenceIdeal Cert.ReferenceIdeal.Gen Cert.ReferenceIdeal.Read

/-- The token of query `i` of block `n`. -/
def tok (n : Fin 64) (i : Fin 128) : Fin 8192 := ⟨n.val * 128 + i.val, by omega⟩

/-- The token of the same place of the block before (the first block's own, of block 0). -/
def tokBefore (n : Fin 64) (i : Fin 128) : Fin 8192 := ⟨(n.val - 1) * 128 + i.val, by omega⟩

/-- The `r`-th head of group `g`. -/
def hd (g : Fin 2) (r : Fin 4) : Fin 8 := ⟨g.val * 4 + r.val, by omega⟩

/-- The queries by block, group and head. -/
theorem queries_apply (x0 : FVec Ideal S4x8192x8x64 .f32) (b : Fin 4) (n : Fin 64) (i : Fin 128) (g : Fin 2) (r : Fin 4)
    (d : Fin 64) : val_main_v10 (F := Ideal) x0 (ix6 b n i g r d) = x0 (ix4 b (tok n i) (hd g r) d) := by
  unfold val_main_v10
  pointwise
  rfl

/-- The second half of a window is the block itself. -/
theorem window_hi (x1 : FVec Ideal S4x8192x2x64 .f32) (b : Fin 4) (n : Fin 64) (j : Fin 128) (g : Fin 2) (d : Fin 64) :
    val_main_v15 (F := Ideal) x1 (ix5 b n ⟨128 + j.val, by omega⟩ g d) = x1 (ix4 b (tok n j) g d) := by
  pointwise [val_main_v15, val_main_v11]
  rfl

theorem pad_zero : val_main_call0_v0 (F := Ideal) (Shape.Idx.first h_S_) = (0 : EReal) := by
  show (((0#32 : BitVec 32).toInt : ℝ) : EReal) = 0
  simp

/-- The first half of a window is the block before, and zeros before the first block. -/
theorem window_lo (x1 : FVec Ideal S4x8192x2x64 .f32) (b : Fin 4) (n : Fin 64) (j : Fin 128) (g : Fin 2) (d : Fin 64) :
    val_main_v15 (F := Ideal) x1 (ix5 b n ⟨j.val, by omega⟩ g d) = if n.val = 0 then (0 : EReal) else x1 (ix4 b (tokBefore n j) g d) := by
  pointwise [val_main_v15, val_main_v14, val_main_v13, val_main_v11]
  rw [pad_zero]
  by_cases h : n.val = 0
  · rw [dif_neg (by omega), if_pos h]
  · rw [dif_pos (by omega), if_neg h]; rfl

/-- The windows of the values are made as those of the keys. -/
theorem window_values (x2 : FVec Ideal S4x8192x2x64 .f32) : val_main_v18 (F := Ideal) x2 = val_main_v15 (F := Ideal) x2 := rfl

/-! ## The mask -/

theorem near_lo : ∀ (i j : Fin 128), IntOp.andi
    (IntOp.cmpi .sge (IntOp.subi (IntOp.addi 128#32 (BitVec.ofNat 32 i.val)) (BitVec.ofNat 32 j.val)) 0#32)
    (IntOp.cmpi .slt (IntOp.subi (IntOp.addi 128#32 (BitVec.ofNat 32 i.val)) (BitVec.ofNat 32 j.val)) 128#32)
      = if j ≤ i then 0#1 else 1#1 := by decide +kernel

theorem near_hi : ∀ (i j : Fin 128), IntOp.andi
    (IntOp.cmpi .sge (IntOp.subi (IntOp.addi 128#32 (BitVec.ofNat 32 i.val)) (BitVec.ofNat 32 (128 + j.val))) 0#32)
    (IntOp.cmpi .slt (IntOp.subi (IntOp.addi 128#32 (BitVec.ofNat 32 i.val)) (BitVec.ofNat 32 (128 + j.val))) 128#32)
      = if j ≤ i then 1#1 else 0#1 := by decide +kernel

theorem exists_lo : ∀ (n : Fin 64) (j : Fin 128), IntOp.cmpi .sge
    (IntOp.addi (IntOp.muli (IntOp.subi (BitVec.ofNat 32 n.val) 1#32) 128#32) (BitVec.ofNat 32 j.val)) 0#32
      = if n.val = 0 then 0#1 else 1#1 := by decide +kernel

theorem exists_hi : ∀ (n : Fin 64) (j : Fin 128), IntOp.cmpi .sge
    (IntOp.addi (IntOp.muli (IntOp.subi (BitVec.ofNat 32 n.val) 1#32) 128#32) (BitVec.ofNat 32 (128 + j.val))) 0#32
      = 1#1 := by decide +kernel

theorem dist_lo : ∀ (i j : Fin 128),
    (IntOp.subi (IntOp.addi 128#32 (BitVec.ofNat 32 i.val)) (BitVec.ofNat 32 j.val)).toInt = (i.val : ℤ) - j.val + 128 := by
  decide +kernel

theorem dist_hi : ∀ (i j : Fin 128),
    (IntOp.subi (IntOp.addi 128#32 (BitVec.ofNat 32 i.val)) (BitVec.ofNat 32 (128 + j.val))).toInt = (i.val : ℤ) - j.val := by
  decide +kernel

/-- A key of the block before is seen where it is less than a window away, and the block exists. -/
theorem seen_lo (n : Fin 64) (i j : Fin 128) :
    val_main_v53 (F := Ideal) (ix3 n i ⟨j.val, by omega⟩) = if j ≤ i ∨ n.val = 0 then 0#1 else 1#1 := by
  pointwise [val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_c_5,
    val_main_c_6, val_main_c_7, val_main_c_8, val_main_c_9, val_main_c_10]
  rw [near_lo, exists_lo]
  by_cases h : j ≤ i <;> by_cases h' : n.val = 0 <;> simp [h, h', IntOp.andi]

/-- A key of the block itself is seen where it is not after the query. -/
theorem seen_hi (n : Fin 64) (i j : Fin 128) :
    val_main_v53 (F := Ideal) (ix3 n i ⟨128 + j.val, by omega⟩) = if j ≤ i then 1#1 else 0#1 := by
  pointwise [val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_c_5,
    val_main_c_6, val_main_c_7, val_main_c_8, val_main_c_9, val_main_c_10]
  rw [near_hi, exists_hi]
  by_cases h : j ≤ i <;> simp [h, IntOp.andi]

/-- The distance to a key of the block before. -/
theorem far_lo (i j : Fin 128) : val_main_v56 (F := Ideal) (ix2 i ⟨j.val, by omega⟩) = (((i.val : ℤ) - j.val + 128 : ℤ) : ℝ) := by
  pointwise [val_main_v56, val_main_v31, val_main_v30, val_main_v29, val_main_v28, val_main_v27, val_main_v26, val_main_v25,
    val_main_v24, val_main_v23, val_main_c_5]
  rw [← dist_lo]; rfl

/-- The distance to a key of the block itself. -/
theorem far_hi (i j : Fin 128) : val_main_v56 (F := Ideal) (ix2 i ⟨128 + j.val, by omega⟩) = (((i.val : ℤ) - j.val : ℤ) : ℝ) := by
  pointwise [val_main_v56, val_main_v31, val_main_v30, val_main_v29, val_main_v28, val_main_v27, val_main_v26, val_main_v25,
    val_main_v24, val_main_v23, val_main_c_5]
  rw [← dist_hi]; rfl

end Cert.Proof.SwaRef

end
-- ==== Proof.SwaHost.lean ====
/-
  The arrays the host hands to the sliding-window call, element by element: the queries scaled, transposed and padded to
  128 lanes; the keys padded to 128 lanes; the values transposed by block.
-/
module

public import proofs.«01_k».proof.Proof.SwaOut
public import proofs.«01_k».proof.Proof.SwaMask
public import Idealize.ShloMosaic.Lib.StableHlo.ReadAt

@[expose] public section

noncomputable section

namespace Cert.Proof.Swa

open Idealize.ShloMosaic Idealize.ShloMosaic.TcCoe Idealize.SL.Sem Cert.Proof.SwaBlock
open Cert.Proof.SwaRef (tok)
open Cert.KernelIdeal Cert.KernelIdeal.Gen

variable (m : (ℓ : Loc nD τ sig) → Buf (Elt Ideal) ℓ) (c : Dev nD)

/-- The four arguments of device `c`. -/
abbrev Q : S4x8192x8x64.Idx → EReal := m ((c : Thread nD τ).loc main_arg0)
abbrev K : S4x8192x2x64.Idx → EReal := m ((c : Thread nD τ).loc main_arg1)
abbrev U : S4x8192x2x64.Idx → EReal := m ((c : Thread nD τ).loc main_arg2)
abbrev S : S8.Idx → EReal := m ((c : Thread nD τ).loc main_arg3)

/-- The padding is zero. -/
theorem pad_zero : FloatOps.sitofp (F := Ideal) .f32 0#32 = (0 : EReal) := by
  show (((0#32 : BitVec 32).toInt : ℝ) : EReal) = 0
  simp

/-- The queries: lane `e` of the transposed array is lane `e` of the head, scaled; a lane of the padding is zero. -/
theorem V_v6 (b : Fin 4) (n : Fin 64) (e : Fin 128) (x : Fin 1024) :
    (V m c main_v6 : S4x64x128x1024.Idx → EReal) (ix4 b n e x)
      = if h : e.val < 64 then Q m c (ix4 b (tok n ⟨x.val % 128, by omega⟩) (⟨x.val / 128, by omega⟩ : Fin 8) (⟨e.val, h⟩ : Fin 64))
          * Ideal.ofBits .f32 0x3E000000#32 else 0 := by
  unfold V
  after_reads_at
  refine dite_congr rfl (fun h => ?_) (fun _ => pad_zero)
  refine congrArg (· * Ideal.ofBits .f32 0x3E000000#32) ?_
  rfl

/-- The keys: lane `x % 128` of key head `x / 128`; a lane of the padding is zero. -/
theorem V_v9 (b : Fin 4) (t : Fin 8192) (x : Fin 256) :
    (V m c main_v9 : S4x8192x256.Idx → EReal) (ix3 b t x)
      = if h : x.val % 128 < 64 then K m c (ix4 b t (⟨x.val / 128, by omega⟩ : Fin 2) (⟨x.val % 128, h⟩ : Fin 64)) else 0 := by
  unfold V
  after_reads_at
  refine dite_congr (propext ⟨fun e => e.2, fun e => ⟨by omega, e⟩⟩) (fun h => ?_) (fun _ => pad_zero)
  rfl

/-- The values: row `y` of block `n` is lane `y % 64` of key head `y / 64`. -/
theorem V_v12 (b : Fin 4) (n : Fin 64) (y : Fin 128) (j : Fin 128) :
    (V m c main_v12 : S4x64x128x128.Idx → EReal) (ix4 b n y j)
      = U m c (ix4 b (tok n j) (⟨y.val / 64, by omega⟩ : Fin 2) (⟨y.val % 64, by omega⟩ : Fin 64)) := by
  unfold V
  after_reads_at
  rfl

end Cert.Proof.Swa

end
-- ==== Proof.SwaLoad.lean ====
/-
  What a grid point of the sliding-window kernel loads, out of the four arguments.
-/
module

public import proofs.«01_k».proof.Proof.SwaHost

@[expose] public section

noncomputable section

namespace Cert.Proof.Swa

open Idealize.ShloMosaic Idealize.ShloMosaic.TcCoe Idealize.SL.Sem Cert.Proof.SwaBlock
open Cert.Proof.SwaRef (tok tokBefore)
open Cert.KernelIdeal Cert.KernelIdeal.Gen

/-! What the body loads, at an index. -/

theorem load_2 (x2 : S1x128x256.Idx → EReal) (j : Fin 128) (x : Fin 256) :
    k0_pay2 (F := Ideal) (View.ld (Val := Elt Ideal) (S := S1x128x256) x2 (Rect.unit ![0, 0, 0] S1x128x256.size inb_S1x128x256_S1x128x256_0_0_0)) (ix2 j x) = x2 (ix3 0 j x) := by
  unfold_payloads
  pointwise

theorem load_5 (x3 : S1x256x256.Idx → EReal) (j : Fin 128) (x : Fin 256) :
    k0_pay5 (F := Ideal) (View.ld (Val := Elt Ideal) (S := S1x256x256) x3 (Rect.unit ![0, 0, 0] S1x128x256.size inb_S1x256x256_S1x128x256_0_0_0)) (ix2 j x) = x3 (ix3 0 (⟨j.val, by omega⟩ : Fin 256) x) := by
  unfold_payloads
  pointwise

theorem load_4 (x1 : S1x2x128x1024.Idx → EReal) (j : Fin 128) (x : Fin 1024) :
    k0_pay4 (F := Ideal) (View.ld (Val := Elt Ideal) (S := S1x2x128x1024) x1 (Rect.unit ![0, 0, 0, 0] S1x1x128x1024.size inb_S1x2x128x1024_S1x1x128x1024_0_0_0_0)) (ix2 j x) = x1 (ix4 0 0 j x) := by
  unfold_payloads
  pointwise

theorem load_3 (x4 : S1x1x128x128.Idx → EReal) (j : Fin 128) (x : Fin 128) :
    k0_pay3 (F := Ideal) (View.ld (Val := Elt Ideal) (S := S1x1x128x128) x4 (Rect.unit ![0, 0, 0, 0] S1x1x128x128.size inb_S1x1x128x128_S1x1x128x128_0_0_0_0)) (ix2 j x) = x4 (ix4 0 0 j x) := by
  unfold_payloads
  pointwise

theorem load_6 (x5 : S1x2x128x128.Idx → EReal) (j : Fin 128) (x : Fin 128) :
    k0_pay6 (F := Ideal) (View.ld (Val := Elt Ideal) (S := S1x2x128x128) x5 (Rect.unit ![0, 0, 0, 0] S1x1x128x128.size inb_S1x2x128x128_S1x1x128x128_0_0_0_0)) (ix2 j x) = x5 (ix4 0 0 j x) := by
  unfold_payloads
  pointwise

theorem load_45 (x3 : S1x256x256.Idx → EReal) (j : Fin 128) (x : Fin 256) :
    k0_pay45 (F := Ideal) (View.ld (Val := Elt Ideal) (S := S1x256x256) x3 (Rect.unit ![0, 0, 0] S1x128x256.size inb_S1x256x256_S1x128x256_0_0_0)) (ix2 j x) = x3 (ix3 0 (⟨j.val, by omega⟩ : Fin 256) x) := by
  unfold_payloads
  pointwise

theorem load_48 (x3 : S1x256x256.Idx → EReal) (j : Fin 128) (x : Fin 256) :
    k0_pay48 (F := Ideal) (View.ld (Val := Elt Ideal) (S := S1x256x256) x3 (Rect.unit ![0, 128, 0] S1x128x256.size inb_S1x256x256_S1x128x256_0_128_0)) (ix2 j x) = x3 (ix3 0 (⟨128 + j.val, by omega⟩ : Fin 256) x) := by
  unfold_payloads
  pointwise

theorem load_47 (x1 : S1x2x128x1024.Idx → EReal) (j : Fin 128) (x : Fin 1024) :
    k0_pay47 (F := Ideal) (View.ld (Val := Elt Ideal) (S := S1x2x128x1024) x1 (Rect.unit ![0, 1, 0, 0] S1x1x128x1024.size inb_S1x2x128x1024_S1x1x128x1024_0_1_0_0)) (ix2 j x) = x1 (ix4 0 1 j x) := by
  unfold_payloads
  pointwise

theorem load_46 (x5 : S1x2x128x128.Idx → EReal) (j : Fin 128) (x : Fin 128) :
    k0_pay46 (F := Ideal) (View.ld (Val := Elt Ideal) (S := S1x2x128x128) x5 (Rect.unit ![0, 0, 0, 0] S1x1x128x128.size inb_S1x2x128x128_S1x1x128x128_0_0_0_0)) (ix2 j x) = x5 (ix4 0 0 j x) := by
  unfold_payloads
  pointwise

theorem load_49 (x5 : S1x2x128x128.Idx → EReal) (j : Fin 128) (x : Fin 128) :
    k0_pay49 (F := Ideal) (View.ld (Val := Elt Ideal) (S := S1x2x128x128) x5 (Rect.unit ![0, 1, 0, 0] S1x1x128x128.size inb_S1x2x128x128_S1x1x128x128_0_1_0_0)) (ix2 j x) = x5 (ix4 0 1 j x) := by
  unfold_payloads
  pointwise

/-- The sinks as loaded. -/
theorem sinks_apply (x0 : S8.Idx → EReal) (h : Fin 8) : sinks (F := Ideal) x0 h = x0 (ix1 h) := by
  fin_cases h <;>
  · unfold sinks
    dsimp only
    exact congrArg x0 (funext fun a => by fin_cases a; rfl)

/-- The bias of a point's first block: −∞ at the first point of a sequence, else zero. -/
theorem biasA_apply (i : grid0.Coords) : k0_pay10 (F := Ideal) i = if (i 1).val = 0 then (⊥ : EReal) else 0 := by
  unfold_payloads
  dsimp only
  have hi : (i 1).val < 32 := (i 1).isLt
  rw [IdealRules.named_const.ideal_named_scalar _ _ _ _ rfl]
  by_cases h : (i 1).val = 0
  · rw [if_pos h, h]
    rfl
  · rw [if_neg h]
    have e : Scalar.cmpi .eq (BitVec.ofNat 32 (i 1).val) 0#32 = 0#1 := by
      have : BitVec.ofNat 32 (i 1).val ≠ 0#32 := fun e => h (by
        have := congrArg BitVec.toNat e
        simp only [BitVec.toNat_ofNat] at this
        omega)
      show BitVec.ofBool (BitVec.ofNat 32 (i 1).val == 0#32) = 0#1
      rw [beq_eq_false_iff_ne.mpr this]
      rfl
    rw [e]
    show Ideal.ofBits .f32 0x00000000#32 = 0
    simp [Ideal.ofBits, Ideal.ieee]

/-- The bias of a point's last block. -/
theorem biasB_apply : k0_pay53 (F := Ideal) = (0 : EReal) := by
  unfold_payloads
  dsimp only
  show Ideal.ofBits .f32 0x00000000#32 = 0
  simp [Ideal.ofBits, Ideal.ieee]

/-! Where the windows stand at a grid point: 32 points of 256 tokens to a sequence. -/

/-- There are 128 points. -/
theorem N_eq : cfg0.N = 128 := by decide +kernel

/-- Along the batch. -/
theorem idx_b : ∀ t : Fin cfg0.N, win0_1.index t 0 = t.val / 32 ∧ win0_2.index t 0 = t.val / 32 ∧ win0_3.index t 0 = t.val / 32
    ∧ win0_4.index t 0 = t.val / 32 ∧ win0_5.index t 0 = t.val / 32 ∧ win0_6.index t 0 = t.val / 32 :=
  (by decide +kernel : ∀ t : Fin grid0.N, _)

/-- Along the sequence; the windows on the block before stand at block 0 where there is none. -/
theorem idx_m : ∀ t : Fin cfg0.N, win0_1.index t 1 = t.val % 32 ∧ win0_2.index t 1 = 2 * (t.val % 32) - 1
    ∧ win0_3.index t 1 = t.val % 32 ∧ win0_4.index t 1 = 2 * (t.val % 32) - 1 ∧ win0_5.index t 1 = t.val % 32
    ∧ win0_6.index t 1 = t.val % 32 :=
  (by decide +kernel : ∀ t : Fin grid0.N, _)

/-- Along every other axis. -/
theorem idx_zero : ∀ t : Fin cfg0.N, win0_0.index t 0 = 0 ∧ (win0_1.index t 2 = 0 ∧ win0_1.index t 3 = 0) ∧ win0_2.index t 2 = 0
    ∧ win0_3.index t 2 = 0 ∧ (win0_4.index t 2 = 0 ∧ win0_4.index t 3 = 0) ∧ (win0_5.index t 2 = 0 ∧ win0_5.index t 3 = 0)
    ∧ win0_6.index t 2 = 0 :=
  (by decide +kernel : ∀ t : Fin grid0.N, _)

/-- The grid coordinate along the sequence. -/
theorem coord_m : ∀ t : Fin cfg0.N, (grid0.coords t 1).val = t.val % 32 := (by decide +kernel : ∀ t : Fin grid0.N, _)

theorem t_lt (t : Fin cfg0.N) : t.val < 128 := lt_of_lt_of_eq t.isLt N_eq

/-- The batch row of a point. -/
def bt (t : Fin cfg0.N) : Fin 4 := ⟨t.val / 32, by have := t_lt t; omega⟩
/-- The first, or the second, block of a point. -/
def nth (t : Fin cfg0.N) (s : Fin 2) : Fin 64 := ⟨t.val % 32 * 2 + s.val, by omega⟩
/-- The block before the point's first. -/
def bef (t : Fin cfg0.N) : Fin 64 := ⟨2 * (t.val % 32) - 1, by omega⟩

variable (m : (ℓ : Loc nD τ sig) → Buf (Elt Ideal) ℓ) (c : Dev nD)

/-! The blocks a point reads, out of the arguments. -/

theorem iblk_0 (t : Fin cfg0.N) (h : Fin 8) : (iblk m c 0 t : S8.Idx → EReal) (ix1 h) = S m c (ix1 h) := by
  refine (congrArg (V m c main_arg3) (funext fun a => Fin.ext ?_)).trans (congrFun (V_main_arg3 m c) _)
  match a with
  | ⟨0, _⟩ => show win0_0.index t 0 * 8 + 1 * h.val = h.val; rw [(idx_zero t).1]; omega

theorem iblk_1 (t : Fin cfg0.N) (s : Fin 2) (e : Fin 128) (x : Fin 1024) :
    (iblk m c 1 t : S1x2x128x1024.Idx → EReal) (ix4 0 s e x) = (V m c main_v6 : S4x64x128x1024.Idx → EReal) (ix4 (bt t) (nth t s) e x) := by
  refine congrArg (V m c main_v6) (funext fun a => Fin.ext ?_)
  match a with
  | ⟨0, _⟩ => show win0_1.index t 0 * 1 + 1 * 0 = t.val / 32; rw [(idx_b t).1]; omega
  | ⟨1, _⟩ => show win0_1.index t 1 * 2 + 1 * s.val = t.val % 32 * 2 + s.val; rw [(idx_m t).1]; omega
  | ⟨2, _⟩ => show win0_1.index t 2 * 128 + 1 * e.val = e.val; rw [(idx_zero t).2.1.1]; omega
  | ⟨3, _⟩ => show win0_1.index t 3 * 1024 + 1 * x.val = x.val; rw [(idx_zero t).2.1.2]; omega

/-- Any array's block under the third window, at an index. -/
theorem read_2 (A : S4x8192x256.Idx → EReal) (t : Fin cfg0.N) (j : Fin 128) (x : Fin 256) :
    ((win0_2.blk t).view.read (Elt Ideal) A : S1x128x256.Idx → EReal) (ix3 0 j x) = A (ix3 (bt t) (tok (bef t) j) x) := by
  refine congrArg A (funext fun a => Fin.ext ?_)
  match a with
  | ⟨0, _⟩ => show win0_2.index t 0 * 1 + 1 * 0 = t.val / 32; rw [(idx_b t).2.1]; omega
  | ⟨1, _⟩ => show win0_2.index t 1 * 128 + 1 * j.val = (2 * (t.val % 32) - 1) * 128 + j.val; rw [(idx_m t).2.1]; omega
  | ⟨2, _⟩ => show win0_2.index t 2 * 256 + 1 * x.val = x.val; rw [(idx_zero t).2.2.1]; omega

theorem iblk_2 (t : Fin cfg0.N) (j : Fin 128) (x : Fin 256) :
    (iblk m c 2 t : S1x128x256.Idx → EReal) (ix3 0 j x) = (V m c main_v9 : S4x8192x256.Idx → EReal) (ix3 (bt t) (tok (bef t) j) x) := by
  exact read_2 (V m c main_v9) t j x

/-- Any array's block under the fourth window, at an index. -/
theorem read_3 (A : S4x8192x256.Idx → EReal) (t : Fin cfg0.N) (s : Fin 2) (j : Fin 128) (y : Fin 256) (hy : y.val = s.val * 128 + j.val) (x : Fin 256) :
    ((win0_3.blk t).view.read (Elt Ideal) A : S1x256x256.Idx → EReal) (ix3 0 y x) = A (ix3 (bt t) (tok (nth t s) j) x) := by
  refine congrArg A (funext fun a => Fin.ext ?_)
  match a with
  | ⟨0, _⟩ => show win0_3.index t 0 * 1 + 1 * 0 = t.val / 32; rw [(idx_b t).2.2.1]; omega
  | ⟨1, _⟩ => show win0_3.index t 1 * 256 + 1 * y.val = (t.val % 32 * 2 + s.val) * 128 + j.val; rw [(idx_m t).2.2.1]; omega
  | ⟨2, _⟩ => show win0_3.index t 2 * 256 + 1 * x.val = x.val; rw [(idx_zero t).2.2.2.1]; omega

theorem iblk_3 (t : Fin cfg0.N) (s : Fin 2) (j : Fin 128) (y : Fin 256) (hy : y.val = s.val * 128 + j.val) (x : Fin 256) :
    (iblk m c 3 t : S1x256x256.Idx → EReal) (ix3 0 y x) = (V m c main_v9 : S4x8192x256.Idx → EReal) (ix3 (bt t) (tok (nth t s) j) x) := by
  exact read_3 (V m c main_v9) t s j y hy x

theorem iblk_4 (t : Fin cfg0.N) (y j : Fin 128) :
    (iblk m c 4 t : S1x1x128x128.Idx → EReal) (ix4 0 0 y j) = (V m c main_v12 : S4x64x128x128.Idx → EReal) (ix4 (bt t) (bef t) y j) := by
  refine congrArg (V m c main_v12) (funext fun a => Fin.ext ?_)
  match a with
  | ⟨0, _⟩ => show win0_4.index t 0 * 1 + 1 * 0 = t.val / 32; rw [(idx_b t).2.2.2.1]; omega
  | ⟨1, _⟩ => show win0_4.index t 1 * 1 + 1 * 0 = 2 * (t.val % 32) - 1; rw [(idx_m t).2.2.2.1]; omega
  | ⟨2, _⟩ => show win0_4.index t 2 * 128 + 1 * y.val = y.val; rw [(idx_zero t).2.2.2.2.1.1]; omega
  | ⟨3, _⟩ => show win0_4.index t 3 * 128 + 1 * j.val = j.val; rw [(idx_zero t).2.2.2.2.1.2]; omega

theorem iblk_5 (t : Fin cfg0.N) (s : Fin 2) (y j : Fin 128) :
    (iblk m c 5 t : S1x2x128x128.Idx → EReal) (ix4 0 s y j) = (V m c main_v12 : S4x64x128x128.Idx → EReal) (ix4 (bt t) (nth t s) y j) := by
  refine congrArg (V m c main_v12) (funext fun a => Fin.ext ?_)
  match a with
  | ⟨0, _⟩ => show win0_5.index t 0 * 1 + 1 * 0 = t.val / 32; rw [(idx_b t).2.2.2.2.1]; omega
  | ⟨1, _⟩ => show win0_5.index t 1 * 2 + 1 * s.val = t.val % 32 * 2 + s.val; rw [(idx_m t).2.2.2.2.1]; omega
  | ⟨2, _⟩ => show win0_5.index t 2 * 128 + 1 * y.val = y.val; rw [(idx_zero t).2.2.2.2.2.1.1]; omega
  | ⟨3, _⟩ => show win0_5.index t 3 * 128 + 1 * j.val = j.val; rw [(idx_zero t).2.2.2.2.2.1.2]; omega

end Cert.Proof.Swa

end
-- ==== Proof.SwaKer.lean ====
/-
  The result array of the sliding-window kernel, element by element.
-/
module

public import proofs.«01_k».proof.Proof.SwaLoad

@[expose] public section

noncomputable section

namespace Cert.Proof.Swa

open Idealize.ShloMosaic Idealize.ShloMosaic.TcCoe Idealize.SL.Sem Cert.Proof.SwaBlock Cert.Proof.Softmax
open Cert.Proof.SwaRef (tok tokBefore)
open Cert.KernelIdeal Cert.KernelIdeal.Gen
open scoped BigOperators

section Value

variable (q : S4x8192x8x64.Idx → EReal) (k u : S4x8192x2x64.Idx → EReal) (s : S8.Idx → EReal)

/-- A key's lane, the 64 lanes of the head padded to 128 by zeros. -/
def keyLane (b : Fin 4) (t : Fin 8192) (g : Fin 2) (e : Fin 128) : EReal :=
  if h : e.val < 64 then k (ix4 b t g (⟨e.val, h⟩ : Fin 64)) else 0

/-- A query's lane, scaled, and padded likewise. -/
def queryLane (b : Fin 4) (t : Fin 8192) (h : Fin 8) (e : Fin 128) : EReal :=
  if h' : e.val < 64 then q (ix4 b t h (⟨e.val, h'⟩ : Fin 64)) * Ideal.ofBits .f32 0x3E000000#32 else 0

/-- The score of query `i` of block `n` with the key of token `t`. -/
def keyScore (b : Fin 4) (n : Fin 64) (g : Fin 2) (r : Fin 4) (i : Fin 128) (t : Fin 8192) : EReal :=
  ∑ e : Fin 128, keyLane k b t g e * queryLane q b (tok n i) (SwaBlock.hd g r) e

/-- The bias on the keys of the block before: −∞ where there is none. -/
def edge (n : Fin 64) : EReal := if n.val = 0 then ⊥ else 0

/-- The logits of query `i` of block `n`, merged over the block and the one before. -/
def logit (b : Fin 4) (n : Fin 64) (g : Fin 2) (r : Fin 4) (i : Fin 128) : Fin 128 → EReal :=
  merged (slope Ideal (SwaBlock.hd g r)) (edge n) (fun j => keyScore q k b n g r i (tok n j))
    (fun j => keyScore q k b n g r i (tokBefore n j)) i

/-- Lane `d` of head `4 g + r` at query `i` of block `n`. -/
def blockOf (b : Fin 4) (n : Fin 64) (g : Fin 2) (r : Fin 4) (i : Fin 128) (d : Fin 64) : EReal :=
  ∑ j : Fin 128, (u (ix4 b (tokBefore n j) g d) * (if j ≤ i then 0 else prob (logit q k b n g r i) (s (ix1 (SwaBlock.hd g r))) j)
    + u (ix4 b (tok n j) g d) * (if j ≤ i then prob (logit q k b n g r i) (s (ix1 (SwaBlock.hd g r))) j else 0))

/-- The whole result. -/
def resultOf : S4x8192x512.Idx → EReal := fun i =>
  have h1 : (i 1).val < 8192 := (i 1).isLt
  have h2 : (i 2).val < 512 := (i 2).isLt
  blockOf q k u s (i 0) (⟨(i 1).val / 128, by omega⟩ : Fin 64) (⟨(i 2).val / 256, by omega⟩ : Fin 2)
    (⟨(i 2).val / 64 % 4, by omega⟩ : Fin 4) (⟨(i 1).val % 128, by omega⟩ : Fin 128) (⟨(i 2).val % 64, by omega⟩ : Fin 64)

/-- At token `128 n + i` and lane `d` of head `4 g + r` the result is that block's. -/
theorem resultOf_apply (b : Fin 4) (n : Fin 64) (g : Fin 2) (r : Fin 4) (i : Fin 128) (d : Fin 64) (t : Fin 8192) (x : Fin 512)
    (ht : t = tok n i) (hx : x.val = 64 * (SwaBlock.hd g r).val + d.val) :
    resultOf q k u s (ix3 b t x) = blockOf q k u s b n g r i d := by
  have hv : t.val = n.val * 128 + i.val := congrArg Fin.val ht
  have hh : (SwaBlock.hd g r).val = 4 * g.val + r.val := rfl
  show blockOf q k u s b (⟨t.val / 128, _⟩ : Fin 64) (⟨x.val / 256, _⟩ : Fin 2) (⟨x.val / 64 % 4, _⟩ : Fin 4)
    (⟨t.val % 128, _⟩ : Fin 128) (⟨x.val % 64, _⟩ : Fin 64) = _
  congr 1 <;> refine Fin.ext ?_ <;> dsimp only <;> omega

end Value

variable (m : (ℓ : Loc nD τ sig) → Buf (Elt Ideal) ℓ) (c : Dev nD)

/-- A lane of the host's keys. -/
theorem keyLane_eq (b : Fin 4) (t : Fin 8192) (g : Fin 2) (e : Fin 128) :
    (V m c main_v9 : S4x8192x256.Idx → EReal) (ix3 b t (⟨128 * g.val + e.val, by omega⟩ : Fin 256)) = keyLane (K m c) b t g e := by
  refine (V_v9 m c b t _).trans ?_
  unfold keyLane
  refine dite_congr (by dsimp only; exact propext ⟨fun h => by omega, fun h => by omega⟩) (fun h => ?_) (fun _ => rfl)
  refine congrArg (K m c) (congrArg₂ (ix4 b t) (Fin.ext ?_) (Fin.ext ?_)) <;> dsimp only <;> omega

/-- A lane of the host's queries. -/
theorem queryLane_eq (b : Fin 4) (n : Fin 64) (e : Fin 128) (g : Fin 2) (r : Fin 4) (i : Fin 128) :
    (V m c main_v6 : S4x64x128x1024.Idx → EReal) (ix4 b n e (⟨512 * g.val + (128 * r.val + i.val), by omega⟩ : Fin 1024))
      = queryLane (Q m c) b (tok n i) (SwaBlock.hd g r) e := by
  refine (V_v6 m c b n e _).trans ?_
  unfold queryLane
  refine dite_congr rfl (fun h => congrArg (· * Ideal.ofBits .f32 0x3E000000#32) ?_) (fun _ => rfl)
  have h1 : (⟨(512 * g.val + (128 * r.val + i.val)) % 128, by omega⟩ : Fin 128) = i := Fin.ext (by dsimp only; omega)
  have h2 : (⟨(512 * g.val + (128 * r.val + i.val)) / 128, by omega⟩ : Fin 8) = SwaBlock.hd g r :=
    Fin.ext (by show _ = 4 * g.val + r.val; dsimp only; omega)
  show Q m c (ix4 b (tok n ⟨(512 * g.val + (128 * r.val + i.val)) % 128, _⟩) ⟨(512 * g.val + (128 * r.val + i.val)) / 128, _⟩ _) = _
  rw [h1, h2]

/-- A lane of the host's values. -/
theorem valueLane_eq (b : Fin 4) (n : Fin 64) (g : Fin 2) (d : Fin 64) (j : Fin 128) :
    (V m c main_v12 : S4x64x128x128.Idx → EReal) (ix4 b n (⟨64 * g.val + d.val, by omega⟩ : Fin 128) j) = U m c (ix4 b (tok n j) g d) := by
  refine (V_v12 m c b n _ j).trans ?_
  refine congrArg (U m c) (congrArg₂ (ix4 b (tok n j)) (Fin.ext ?_) (Fin.ext ?_)) <;> dsimp only <;> omega

/-- A block of the kernel over blocks of the host's arrays is the block of the result. -/
theorem block_eq (b : Fin 4) (n nb : Fin 64) (hnb : nb.val = n.val - 1) (bias : EReal) (sink : Fin 8 → EReal) (kp kc : S128x256.Idx → EReal)
    (q : S128x1024.Idx → EReal) (vp vc : S128x128.Idx → EReal) (hb : bias = edge n) (hs : ∀ h, sink h = S m c (ix1 h))
    (hkp : ∀ j x, kp (ix2 j x) = (V m c main_v9 : S4x8192x256.Idx → EReal) (ix3 b (tok nb j) x))
    (hkc : ∀ j x, kc (ix2 j x) = (V m c main_v9 : S4x8192x256.Idx → EReal) (ix3 b (tok n j) x))
    (hq : ∀ e x, q (ix2 e x) = (V m c main_v6 : S4x64x128x1024.Idx → EReal) (ix4 b n e x))
    (hvp : ∀ y j, vp (ix2 y j) = (V m c main_v12 : S4x64x128x128.Idx → EReal) (ix4 b nb y j))
    (hvc : ∀ y j, vc (ix2 y j) = (V m c main_v12 : S4x64x128x128.Idx → EReal) (ix4 b n y j))
    (g : Fin 2) (r : Fin 4) (i : Fin 128) (d : Fin 64) :
    block (F := Ideal) bias sink kp kc q vp vc (ix3 0 i (⟨64 * (SwaBlock.hd g r).val + d.val, by have := (SwaBlock.hd g r).isLt; omega⟩ : Fin 512))
      = blockOf (Q m c) (K m c) (U m c) (S m c) b n g r i d := by
  have ht : ∀ j, tok nb j = tokBefore n j := fun j => Fin.ext (by show nb.val * 128 + j.val = (n.val - 1) * 128 + j.val; rw [hnb])
  have e1 : SwaBlock.score kc q g r i = fun j => keyScore (Q m c) (K m c) b n g r i (tok n j) := funext fun j =>
    Finset.sum_congr rfl fun e _ => congrArg₂ (· * ·) ((hkc _ _).trans (keyLane_eq m c b _ g e)) ((hq _ _).trans (queryLane_eq m c b n e g r i))
  have e2 : SwaBlock.score kp q g r i = fun j => keyScore (Q m c) (K m c) b n g r i (tokBefore n j) := funext fun j =>
    Finset.sum_congr rfl fun e _ => congrArg₂ (· * ·)
      (((hkp _ _).trans (keyLane_eq m c b _ g e)).trans (congrArg (fun t => keyLane (K m c) b t g e) (ht j)))
      ((hq _ _).trans (queryLane_eq m c b n e g r i))
  rw [block_apply, e1, e2, hb, hs]
  unfold blockOf logit
  refine Finset.sum_congr rfl fun j _ => ?_
  rw [hvp, hvc, valueLane_eq, valueLane_eq, ht]

/-- What a point stores in its first 128 rows. -/
theorem rowsA_eq (t : Fin cfg0.N) (g : Fin 2) (r : Fin 4) (i : Fin 128) (d : Fin 64) :
    rowsA (F := Ideal) (grid0.coords t) (iblk m c 0 t) (iblk m c 1 t) (iblk m c 2 t) (iblk m c 3 t) (iblk m c 4 t) (iblk m c 5 t)
        (ix3 0 i (⟨64 * (SwaBlock.hd g r).val + d.val, by have := (SwaBlock.hd g r).isLt; omega⟩ : Fin 512))
      = blockOf (Q m c) (K m c) (U m c) (S m c) (bt t) (nth t 0) g r i d := by
  unfold rowsA
  refine block_eq m c (bt t) (nth t 0) (bef t) ?_ _ _ _ _ _ _ _ ?_ ?_ ?_ ?_ ?_ ?_ ?_ g r i d
  · show 2 * (t.val % 32) - 1 = t.val % 32 * 2 + 0 - 1; omega
  · rw [biasA_apply, coord_m]
    unfold edge
    refine if_congr ?_ rfl rfl
    show _ ↔ t.val % 32 * 2 + 0 = 0
    omega
  · exact fun h => (sinks_apply _ h).trans (iblk_0 m c t h)
  · exact fun j x => (load_2 _ j x).trans (iblk_2 m c t j x)
  · exact fun j x => (load_5 _ j x).trans (iblk_3 m c t 0 j _ (by show j.val = 0 * 128 + j.val; omega) x)
  · exact fun e x => (load_4 _ e x).trans (iblk_1 m c t 0 e x)
  · exact fun y j => (load_3 _ y j).trans (iblk_4 m c t y j)
  · exact fun y j => (load_6 _ y j).trans (iblk_5 m c t 0 y j)

/-- What a point stores in its last 128 rows. -/
theorem rowsB_eq (t : Fin cfg0.N) (g : Fin 2) (r : Fin 4) (i : Fin 128) (d : Fin 64) :
    rowsB (F := Ideal) (iblk m c 0 t) (iblk m c 1 t) (iblk m c 3 t) (iblk m c 5 t)
        (ix3 0 i (⟨64 * (SwaBlock.hd g r).val + d.val, by have := (SwaBlock.hd g r).isLt; omega⟩ : Fin 512))
      = blockOf (Q m c) (K m c) (U m c) (S m c) (bt t) (nth t 1) g r i d := by
  unfold rowsB
  refine block_eq m c (bt t) (nth t 1) (nth t 0) ?_ _ _ _ _ _ _ _ ?_ ?_ ?_ ?_ ?_ ?_ ?_ g r i d
  · show t.val % 32 * 2 + 0 = t.val % 32 * 2 + 1 - 1; omega
  · rw [biasB_apply]
    refine (if_neg ?_).symm
    show ¬(t.val % 32 * 2 + 1 = 0)
    omega
  · exact fun h => (sinks_apply _ h).trans (iblk_0 m c t h)
  · exact fun j x => (load_45 _ j x).trans (iblk_3 m c t 0 j _ (by show j.val = 0 * 128 + j.val; omega) x)
  · exact fun j x => (load_48 _ j x).trans (iblk_3 m c t 1 j _ (by show 128 + j.val = 1 * 128 + j.val; omega) x)
  · exact fun e x => (load_47 _ e x).trans (iblk_1 m c t 1 e x)
  · exact fun y j => (load_46 _ y j).trans (iblk_5 m c t 0 y j)
  · exact fun y j => (load_49 _ y j).trans (iblk_5 m c t 1 y j)

end Cert.Proof.Swa

end
-- ==== Proof.SwaArr.lean ====
/-
  The array the sliding-window call leaves: every point writes back its block of one array, and the blocks cover it.
-/
module

public import proofs.«01_k».proof.Proof.SwaKer

@[expose] public section

noncomputable section

namespace Cert.Proof.Swa

open Idealize.ShloMosaic Idealize.ShloMosaic.TcCoe Idealize.SL.Sem Cert.Proof.SwaBlock Cert.Proof.Softmax
open Cert.Proof.SwaRef (tok tokBefore)
open Cert.KernelIdeal Cert.KernelIdeal.Gen
open scoped BigOperators

/-- Every index of 128 rows is a query and a lane of a head. -/
theorem row_lane (x : S1x128x512.Idx) : ∃ (g : Fin 2) (r : Fin 4) (i : Fin 128) (d : Fin 64),
    x = ix3 0 i (⟨64 * (SwaBlock.hd g r).val + d.val, by have := (SwaBlock.hd g r).isLt; omega⟩ : Fin 512) := by
  have h2 : (x 2).val < 512 := (x 2).isLt
  have h0 : (x 0).val < 1 := (x 0).isLt
  refine ⟨⟨(x 2).val / 256, by omega⟩, ⟨(x 2).val / 64 % 4, by omega⟩, x 1, ⟨(x 2).val % 64, by omega⟩, funext fun a => Fin.ext ?_⟩
  match a with
  | ⟨0, _⟩ => show (x 0).val = 0; omega
  | ⟨1, _⟩ => rfl
  | ⟨2, _⟩ => show (x 2).val = 64 * (4 * ((x 2).val / 256) + (x 2).val / 64 % 4) + (x 2).val % 64; omega

variable (m : (ℓ : Loc nD τ sig) → Buf (Elt Ideal) ℓ) (c : Dev nD)

/-- What the result array ends holding. -/
def result : S4x8192x512.Idx → EReal := resultOf (Q m c) (K m c) (U m c) (S m c)

/-- Point `t`'s block of it. -/
def part (t : Fin cfg0.N) : S1x256x512.Idx → EReal := fun y =>
  have h1 : (y 1).val < 256 := (y 1).isLt
  result m c (ix3 (bt t) (⟨t.val % 32 * 256 + (y 1).val, by omega⟩ : Fin 8192) (y 2))

/-- The two stores of a point lie over its block: the rows from 128 on, and the rows below. -/
theorem pieces_cover (w0 w1 : S1x128x512.Idx → EReal) (y : S1x256x512.Idx) :
    ∃ p ∈ ([⟨Rect.unit ![0, 128, 0] S1x128x512.size inb_S1x256x512_S1x128x512_0_128_0, w1⟩,
      ⟨Rect.unit ![0, 0, 0] S1x128x512.size inb_S1x256x512_S1x128x512_0_0_0, w0⟩] : List (View.Piece (Elt Ideal) S1x256x512 .bf16)),
      y ∈ p.1.set := by
  have h0 : (y 0).val < 1 := (y 0).isLt
  have h1 : (y 1).val < 256 := (y 1).isLt
  have h2 : (y 2).val < 512 := (y 2).isLt
  by_cases h : (y 1).val < 128
  · refine ⟨_, List.mem_cons_of_mem _ List.mem_cons_self, ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 128; omega
    | ⟨2, _⟩ => show 0 ≤ (y 2).val ∧ (y 2).val < 0 + 512; omega
  · refine ⟨_, List.mem_cons_self, ?_⟩
    rw [Rect.mem_set_unit]
    intro a
    match a with
    | ⟨0, _⟩ => show 0 ≤ (y 0).val ∧ (y 0).val < 0 + 1; omega
    | ⟨1, _⟩ => show 128 ≤ (y 1).val ∧ (y 1).val < 128 + 128; omega
    | ⟨2, _⟩ => show 0 ≤ (y 2).val ∧ (y 2).val < 0 + 512; omega

/-- What point `t` writes back is its block. -/
theorem out_part (t : Fin cfg0.N) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
      = part m c t := by
  rw [out_eq, View.read_writes_eq_canon _ _ _ (pieces_cover _ _)]
  funext y
  refine View.canon_apply_of_pieces (part m c t) _ (fun p hp x => ?_) y (pieces_cover _ _ y)
  simp only [List.mem_cons, List.not_mem_nil, or_false] at hp
  rcases hp with rfl | rfl
  · obtain ⟨g, r, i, d, rfl⟩ := row_lane x
    refine (rowsB_eq m c t g r i d).trans (resultOf_apply _ _ _ _ (bt t) (nth t 1) g r i d _ _ (Fin.ext ?_) ?_).symm
    · show t.val % 32 * 256 + (128 + 1 * i.val) = (t.val % 32 * 2 + 1) * 128 + i.val; omega
    · show 0 + 1 * (64 * (SwaBlock.hd g r).val + d.val) = 64 * (SwaBlock.hd g r).val + d.val; omega
  · obtain ⟨g, r, i, d, rfl⟩ := row_lane x
    refine (rowsA_eq m c t g r i d).trans (resultOf_apply _ _ _ _ (bt t) (nth t 0) g r i d _ _ (Fin.ext ?_) ?_).symm
    · show t.val % 32 * 256 + (0 + 1 * i.val) = (t.val % 32 * 2 + 0) * 128 + i.val; omega
    · show 0 + 1 * (64 * (SwaBlock.hd g r).val + d.val) = 64 * (SwaBlock.hd g r).val + d.val; omega

/-- An array's block at point `t`, at an index. -/
theorem read_6 (A : S4x8192x512.Idx → EReal) (t : Fin cfg0.N) (y : Fin 256) (x : Fin 512) :
    ((win0_6.blk t).view.read (Elt Ideal) A : S1x256x512.Idx → EReal) (ix3 0 y x)
      = A (ix3 (bt t) (⟨t.val % 32 * 256 + y.val, by omega⟩ : Fin 8192) x) := by
  refine congrArg A (funext fun a => Fin.ext ?_)
  match a with
  | ⟨0, _⟩ => show win0_6.index t 0 * 1 + 1 * 0 = t.val / 32; rw [(idx_b t).2.2.2.2.2]; omega
  | ⟨1, _⟩ => show win0_6.index t 1 * 256 + 1 * y.val = t.val % 32 * 256 + y.val; rw [(idx_m t).2.2.2.2.2]; omega
  | ⟨2, _⟩ => show win0_6.index t 2 * 512 + 1 * x.val = x.val; rw [(idx_zero t).2.2.2.2.2.2]; omega

/-- What point `t` writes back is block `t` of the result. -/
theorem flushed_eq (t : Fin cfg0.N) :
    (dats m 0 c).flushed 6 t = (win0_6.blk t).view.read (Elt Ideal) (result m c) := by
  rw [Value.flushed6_A, out_part]
  funext y
  have hy : y = ix3 0 (y 1) (y 2) := funext fun a => by
    match a with
    | ⟨0, _⟩ => exact Fin.ext (Nat.lt_one_iff.1 (y 0).isLt)
    | ⟨1, _⟩ => rfl
    | ⟨2, _⟩ => rfl
  rw [hy]
  exact (read_6 (result m c) t (y 1) (y 2)).symm

/-- An index is in a point's block when each coordinate is. -/
theorem mem_blk (t : Fin cfg0.N) (i : S4x8192x512.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v13).slice (win0_6.rect t)).set ↔ _
  rw [View.set_slice_whole, Rect.mem_set_unit]

/-- The 128 blocks cover the array. -/
theorem cover (i : S4x8192x512.Idx) :
    ∃ t : Fin cfg0.N, (cfg0.win 6).flush t = true ∧ i ∈ ((cfg0.win 6).blk t).view.set := by
  have h0 : (i 0 : Nat) < 4 := (i 0).isLt
  have h1 : (i 1 : Nat) < 8192 := (i 1).isLt
  have h2 : (i 2 : Nat) < 512 := (i 2).isLt
  have hN := N_eq
  refine ⟨⟨(i 0 : Nat) * 32 + (i 1 : Nat) / 256, by omega⟩, flush0_6 _, ?_⟩
  rw [mem_blk]
  have hb := (idx_b ⟨(i 0 : Nat) * 32 + (i 1 : Nat) / 256, by omega⟩).2.2.2.2.2
  have hm := (idx_m ⟨(i 0 : Nat) * 32 + (i 1 : Nat) / 256, by omega⟩).2.2.2.2.2
  have hz := (idx_zero ⟨(i 0 : Nat) * 32 + (i 1 : Nat) / 256, by omega⟩).2.2.2.2.2.2
  intro a
  match a with
  | ⟨0, _⟩ => show win0_6.index _ 0 * 1 ≤ (i 0 : Nat) ∧ (i 0 : Nat) < win0_6.index _ 0 * 1 + 1
              rw [hb]; dsimp only; omega
  | ⟨1, _⟩ => show win0_6.index _ 1 * 256 ≤ (i 1 : Nat) ∧ (i 1 : Nat) < win0_6.index _ 1 * 256 + 256
              rw [hm]; dsimp only; omega
  | ⟨2, _⟩ => show win0_6.index _ 2 * 512 ≤ (i 2 : Nat) ∧ (i 2 : Nat) < win0_6.index _ 2 * 512 + 512
              rw [hz]; omega

/-- So the result array ends holding `result`. -/
theorem final : (dats m 0 c).arrAt 6 cfg0.N = result m c :=
  (dats m 0 c).arrAt_eq_of_cover 6 (result m c) (fun t _ => flushed_eq m c t) cover

end Cert.Proof.Swa

end
-- ==== Proof.SwaRef.lean ====
/-
  The reference's windowed attention read at an index, over the extended reals: its masked logits over the 256 keys of
  a query's window, and its result as the mixture of the window's values by the weights of those logits.
-/
module

public import proofs.«01_k».proof.Proof.SwaMask
public import Idealize.ShloMosaic.Lib.Pointwise

@[expose] public section

noncomputable section

namespace Cert.Proof.SwaRef

open Idealize.ShloMosaic Idealize.ShloMosaic.TcCoe Idealize.SL.Sem Idealize.ShloMosaic.StableHlo Cert.Proof.Softmax
open scoped BigOperators
open Cert.ReferenceIdeal Cert.ReferenceIdeal.Gen Cert.ReferenceIdeal.Read

/-! ## The logits -/

theorem ofBits_bot : Ideal.ofBits .f32 0xFF800000#32 = ⊥ := by simp [Ideal.ofBits, Ideal.ieee]

/-- The score of key `k` of the window under query `i`: the sum of the products, by the scale. -/
def score (x0 : FVec Ideal S4x8192x8x64 .f32) (x1 : FVec Ideal S4x8192x2x64 .f32) (b : Fin 4) (n : Fin 64) (g : Fin 2)
    (r : Fin 4) (i : Fin 128) (k : Fin 256) : EReal :=
  (∑ d, val_main_v15 (F := Ideal) x1 (ix5 b n k g d) * x0 (ix4 b (tok n i) (hd g r) d)) * Ideal.ofBits .f32 0x3E000000#32

/-- The masked logit: the score less the slope times the distance where the key is seen, else −∞. -/
theorem logits_apply (x0 : FVec Ideal S4x8192x8x64 .f32) (x1 : FVec Ideal S4x8192x2x64 .f32) (b : Fin 4) (n : Fin 64)
    (g : Fin 2) (r : Fin 4) (i : Fin 128) (k : Fin 256) :
    val_main_v64 (F := Ideal) x0 x1 (ix6 b n g r i k) = Scalar.select (val_main_v53 (F := Ideal) (ix3 n i k))
      (score x0 x1 b n g r i k - val_main_v9 (F := Ideal) (ix1 (hd g r)) * val_main_v56 (F := Ideal) (ix2 i k)) (⊥ : EReal) := by
  pointwise [val_main_v64, val_main_v62, val_main_v22, val_main_v21, val_main_v20, val_main_v19, val_main_call2_v1, val_main_call2_v2,
    val_main_call2_v0, val_main_v63, val_main_v61, val_main_v60, val_main_v59, val_main_v58, val_main_v57, val_main_v55,
    val_main_v54, val_main_cst_4, val_main_cst_11]
  simp only [queries_apply]
  rw [show id (constant (F := Ideal) S_ .f32 4286578688#32) ix0 = (⊥ : EReal) from ofBits_bot]
  rfl

/-- The indices of a query's row of logits are those that drop to the query. -/
theorem row_iff (b : Fin 4) (n : Fin 64) (g : Fin 2) (r : Fin 4) (i : Fin 128) (y : S4x64x2x4x128x256.Idx) :
    reducesTo_S4x64x2x4x128x256_S4x64x2x4x128_d5.drop y = ix5 b n g r i ↔ ∃ k : Fin 256, ix6 b n g r i k = y := by
  have hd (a : Fin 5) (c : Fin 6) (hc : c.val = a.val) :
      (reducesTo_S4x64x2x4x128x256_S4x64x2x4x128_d5.drop y a).val = (y c).val := by
    obtain rfl : c = a.castSucc := Fin.ext hc
    fin_cases a <;> rfl
  constructor
  · intro e
    refine ⟨y 5, funext fun a => Fin.ext ?_⟩
    match a with
    | ⟨0, _⟩ => exact (congrArg Fin.val (congrFun e 0)).symm.trans (hd 0 0 rfl)
    | ⟨1, _⟩ => exact (congrArg Fin.val (congrFun e 1)).symm.trans (hd 1 1 rfl)
    | ⟨2, _⟩ => exact (congrArg Fin.val (congrFun e 2)).symm.trans (hd 2 2 rfl)
    | ⟨3, _⟩ => exact (congrArg Fin.val (congrFun e 3)).symm.trans (hd 3 3 rfl)
    | ⟨4, _⟩ => exact (congrArg Fin.val (congrFun e 4)).symm.trans (hd 4 4 rfl)
    | ⟨5, _⟩ => rfl
  · rintro ⟨k, rfl⟩
    funext a
    apply Fin.ext
    match a with
    | ⟨0, _⟩ => exact hd 0 0 rfl
    | ⟨1, _⟩ => exact hd 1 1 rfl
    | ⟨2, _⟩ => exact hd 2 2 rfl
    | ⟨3, _⟩ => exact hd 3 3 rfl
    | ⟨4, _⟩ => exact hd 4 4 rfl

/-- The greatest logit of a query. -/
theorem most_apply (x0 : FVec Ideal S4x8192x8x64 .f32) (x1 : FVec Ideal S4x8192x2x64 .f32) (b : Fin 4)
    (n : Fin 64) (g : Fin 2) (r : Fin 4) (i : Fin 128) :
    val_main_v67 (F := Ideal) x0 x1 (ix5 b n g r i)
      = Finset.univ.sup (fun k => val_main_v64 (F := Ideal) x0 x1 (ix6 b n g r i k)) := by
  unfold val_main_v67
  generalize val_main_v64 (F := Ideal) x0 x1 = f
  pointwise [val_main_cst_12]
  rw [Finset.fold_filter_eq_fold_of_fiber max _ (fun k : Fin 256 => ix6 b n g r i k) (fun _ _ e => congrFun e 5)
    (row_iff b n g r i), show (4286578688#32 : BitVec 32) = 0xFF800000#32 from rfl, ofBits_bot]
  rfl

/-- The sinks by group and head. -/
theorem sink_apply (x3 : FVec Ideal S8 .f32) (b : Fin 4) (n : Fin 64) (g : Fin 2) (r : Fin 4) (i : Fin 128) :
    val_main_v69 (F := Ideal) x3 (ix6 b n g r i 0) = x3 (ix1 (hd g r)) := by
  pointwise [val_main_v69, val_main_v66, val_main_v65]
  rfl

/-- The greatest of the logits of a query and the sink. -/
theorem top_apply (x0 : FVec Ideal S4x8192x8x64 .f32) (x1 : FVec Ideal S4x8192x2x64 .f32) (x3 : FVec Ideal S8 .f32) (b : Fin 4)
    (n : Fin 64) (g : Fin 2) (r : Fin 4) (i : Fin 128) :
    val_main_v70 (F := Ideal) x0 x1 x3 (ix6 b n g r i 0)
      = top (fun k => val_main_v64 (F := Ideal) x0 x1 (ix6 b n g r i k)) (x3 (ix1 (hd g r))) := by
  have e : val_main_v68 (F := Ideal) x0 x1 (ix6 b n g r i 0) = val_main_v67 (F := Ideal) x0 x1 (ix5 b n g r i) := by
    unfold val_main_v68
    generalize val_main_v67 (F := Ideal) x0 x1 = f
    pointwise
  unfold top
  rw [val_main_v70_apply, e, sink_apply, most_apply, Ideal.maximumf_eq_max]

/-- The exponential of a logit under the greatest. -/
theorem exp_apply (x0 : FVec Ideal S4x8192x8x64 .f32) (x1 : FVec Ideal S4x8192x2x64 .f32) (x3 : FVec Ideal S8 .f32) (b : Fin 4)
    (n : Fin 64) (g : Fin 2) (r : Fin 4) (i : Fin 128) (k : Fin 256) :
    val_main_v73 (F := Ideal) x0 x1 x3 (ix6 b n g r i k)
      = Ideal.exp (val_main_v64 (F := Ideal) x0 x1 (ix6 b n g r i k)
        - top (fun k => val_main_v64 (F := Ideal) x0 x1 (ix6 b n g r i k)) (x3 (ix1 (hd g r)))) := by
  pointwise [val_main_v73, val_main_v72, val_main_v71]
  rw [top_apply]

/-- The sum of the exponentials of a query's logits. -/
theorem total_apply (x0 : FVec Ideal S4x8192x8x64 .f32) (x1 : FVec Ideal S4x8192x2x64 .f32) (x3 : FVec Ideal S8 .f32) (b : Fin 4)
    (n : Fin 64) (g : Fin 2) (r : Fin 4) (i : Fin 128) :
    val_main_v74 (F := Ideal) x0 x1 x3 (ix5 b n g r i) = ∑ k : Fin 256, val_main_v73 (F := Ideal) x0 x1 x3 (ix6 b n g r i k) := by
  refine (val_main_v74_apply x0 x1 x3 (ix5 b n g r i)).trans ?_
  rw [show (val_main_cst_13 (F := Ideal)) (Shape.Idx.first h_S_) = (0 : EReal) by simp [val_main_cst_13, constant, Ideal.ofBits, Ideal.ieee],
    zero_add]
  refine Finset.sum_congr rfl fun k _ => congrArg _ (funext fun a => ?_)
  fin_cases a <;> rfl

/-- The weight of a key. -/
theorem prob_apply (x0 : FVec Ideal S4x8192x8x64 .f32) (x1 : FVec Ideal S4x8192x2x64 .f32) (x3 : FVec Ideal S8 .f32) (b : Fin 4)
    (n : Fin 64) (g : Fin 2) (r : Fin 4) (i : Fin 128) (k : Fin 256) :
    val_main_v81 (F := Ideal) x0 x1 x3 (ix6 b n g r i k)
      = prob (fun k => val_main_v64 (F := Ideal) x0 x1 (ix6 b n g r i k)) (x3 (ix1 (hd g r))) k := by
  have ht := top_apply x0 x1 x3 b n g r i
  have hs := total_apply x0 x1 x3 b n g r i
  simp only [exp_apply] at hs
  have hk := exp_apply x0 x1 x3 b n g r i k
  unfold prob den
  dsimp only
  rw [← hk, ← hs, ← ht]
  unfold val_main_v81 val_main_v80 val_main_v79 val_main_v78 val_main_v77 val_main_v75
  generalize val_main_v74 (F := Ideal) x0 x1 x3 = f
  generalize val_main_v73 (F := Ideal) x0 x1 x3 = e
  generalize val_main_v70 (F := Ideal) x0 x1 x3 = t
  pointwise [val_main_v76, val_main_v66, val_main_v65]
  rfl

/-- The reference's result: the mixture of the window's values by the weights of the masked logits. -/
theorem result_apply (x0 : FVec Ideal S4x8192x8x64 .f32) (x1 x2 : FVec Ideal S4x8192x2x64 .f32) (x3 : FVec Ideal S8 .f32)
    (b : Fin 4) (n : Fin 64) (g : Fin 2) (r : Fin 4) (i : Fin 128) (d : Fin 64) (t : Fin 8192) (x : Fin 512)
    (ht : t = tok n i) (hx : x.val = 64 * (hd g r).val + d.val) :
    val_main_v85 (F := Ideal) x0 x1 x2 x3 (ix3 b t x)
      = attend (fun k => val_main_v64 (F := Ideal) x0 x1 (ix6 b n g r i k)) (x3 (ix1 (hd g r)))
        (fun k => val_main_v15 (F := Ideal) x2 (ix5 b n k g d)) := by
  have hh : (hd g r).val = g.val * 4 + r.val := rfl
  have htv : t.val = n.val * 128 + i.val := congrArg Fin.val ht
  unfold attend
  simp only [← prob_apply, ← window_values]
  unfold val_main_v85 val_main_v84 val_main_v83 val_main_v82
  generalize val_main_v81 (F := Ideal) x0 x1 x3 = p
  generalize val_main_v18 (F := Ideal) x2 = v
  pointwise
  have e0 : t.val / 128 = n.val := by omega
  have e1 : t.val % 128 = i.val := by omega
  have e2 : x.val / 256 = g.val := by omega
  have e3 : x.val / 64 % 4 = r.val := by omega
  have e4 : x.val % 64 = d.val := by omega
  simp only [e0, e1, e2, e3, e4]

end Cert.Proof.SwaRef

end
-- ==== Proof.SwaSlope.lean ====
/-
  The reference's slopes: those of its eight heads, each the root of a power of two.
-/
module

public import proofs.«01_k».proof.Proof.SwaMask
public import Idealize.ShloMosaic.Lib.Pointwise

@[expose] public section

noncomputable section

namespace Cert.Proof.SwaRef

open Idealize.ShloMosaic Idealize.ShloMosaic.TcCoe Idealize.SL.Sem Idealize.ShloMosaic.StableHlo Cert.Proof.Softmax
open scoped BigOperators
open Cert.ReferenceIdeal Cert.ReferenceIdeal.Gen Cert.ReferenceIdeal.Read

/-! The three constants of the exponent. -/

theorem two_bits : Ideal.ofBits .f32 0x40000000#32 = ((2 : ℝ) : EReal) := by simp [Ideal.ofBits, Ideal.ieee, -EReal.coe_mul]; norm_num
theorem eight_bits : Ideal.ofBits .f32 0xC1000000#32 = ((-8 : ℝ) : EReal) := by simp [Ideal.ofBits, Ideal.ieee, -EReal.coe_mul]; norm_num
theorem sixteen_bits : Ideal.ofBits .f32 0x41800000#32 = ((16 : ℝ) : EReal) := by simp [Ideal.ofBits, Ideal.ieee, -EReal.coe_mul]; norm_num

/-- The slope of head `h` is the nonnegative real whose square is two to the power of `-(1 + h)`. -/
theorem slope_apply (h : Fin 8) (x : ℝ) (h0 : 0 ≤ x) (hx : x * x = ((2 : ℝ) ^ (h.val + 1))⁻¹) :
    val_main_v9 (F := Ideal) (ix1 h) = (x : EReal) := by
  pointwise [val_main_v9, val_main_v8, val_main_v7, val_main_v6, val_main_v5, val_main_v4, val_main_v3, val_main_v2, val_main_v1,
    val_main_v0, val_main_cst, val_main_cst_0, val_main_cst_1, val_main_cst_2]
  have hi : ∀ h : Fin 8, (BitVec.ofNat 32 h.val).toInt = (h.val : ℤ) := by decide
  have e : FloatOps.sitofp (F := Ideal) .f32 (BitVec.ofNat 32 h.val) = ((h.val : ℝ) : EReal) := by
    show (((BitVec.ofNat 32 h.val).toInt : ℝ) : EReal) = _
    rw [hi]; simp
  rw [e, show (1073741824#32 : BitVec 32) = 0x40000000#32 from rfl, two_bits, show (3238002688#32 : BitVec 32) = 0xC1000000#32 from rfl,
    eight_bits, show (1098907648#32 : BitVec 32) = 0x41800000#32 from rfl, sixteen_bits,
    show (1 : EReal) + ((h.val : ℝ) : EReal) = ((1 + h.val : ℝ) : EReal) by norm_cast, ← EReal.coe_mul]
  have hdiv : Ideal.div ((-8 * (1 + h.val : ℝ) : ℝ) : EReal) ((16 : ℝ) : EReal) = ((-(1 + h.val : ℝ) / 2 : ℝ) : EReal) := by
    rw [Ideal.div_coe (by norm_num), ← EReal.coe_mul]
    congr 1
    ring
  rw [hdiv]
  show ((Real.rpow 2 (-(1 + h.val : ℝ) / 2) : ℝ) : EReal) = x
  congr 1
  have hp : 0 ≤ (2 : ℝ) ^ (-(1 + h.val : ℝ) / 2) := Real.rpow_nonneg (by norm_num) _
  refine (mul_self_inj hp h0).1 ?_
  rw [hx, ← Real.rpow_add (by norm_num), show (-(1 + h.val : ℝ) / 2 + -(1 + h.val : ℝ) / 2) = -((h.val + 1 : ℕ) : ℝ) by push_cast; ring,
    Real.rpow_neg (by norm_num), Real.rpow_natCast]

end Cert.Proof.SwaRef

end
-- ==== Proof.SwaEq.lean ====
/-
  The two sides' attention are one: kernel scores over padded lanes are the reference's scores, the slopes agree, and the
  merged logits are the reference's, spread over the window of two blocks.
-/
module

public import proofs.«01_k».proof.Proof.SwaKer
public import proofs.«01_k».proof.Proof.SwaRef
public import proofs.«01_k».proof.Proof.SwaSlope

@[expose] public section

noncomputable section

namespace Cert.Proof.Swa

open Idealize.ShloMosaic Idealize.ShloMosaic.TcCoe Idealize.SL.Sem Cert.Proof.Softmax
open Cert.Proof.SwaRef (tok tokBefore)
open Cert.KernelIdeal Cert.ReferenceIdeal.Read
open scoped BigOperators

/-- Both sides number the heads alike. -/
theorem hd_eq (g : Fin 2) (r : Fin 4) : SwaBlock.hd g r = SwaRef.hd g r := Fin.ext (by
  show 4 * g.val + r.val = g.val * 4 + r.val; omega)

/-- The kernel's slopes are the reference's. -/
theorem slope_eq (h : Fin 8) : SwaBlock.slope Ideal h = val_main_v9 (F := Ideal) (ix1 h) ∧ ∃ x : ℝ, SwaBlock.slope Ideal h = (x : EReal) := by
  suffices H : ∃ x : ℝ, 0 ≤ x ∧ x * x = ((2 : ℝ) ^ (h.val + 1))⁻¹ ∧ SwaBlock.slope Ideal h = (x : EReal) by
    obtain ⟨x, h0, hx, e⟩ := H
    exact ⟨e.trans (SwaRef.slope_apply h x h0 hx).symm, x, e⟩
  have root : ∀ y : ℝ, 0 ≤ y → (Real.sqrt y)⁻¹ * (Real.sqrt y)⁻¹ = y⁻¹ := fun y hy => by
    rw [← mul_inv, Real.mul_self_sqrt hy]
  match h with
  | 0 => exact ⟨(Real.sqrt 2)⁻¹, by positivity, by rw [root _ (by norm_num)]; norm_num, IdealRules.named_const.ideal_named_scalar _ _ _ _ rfl⟩
  | 1 => exact ⟨1 / 2, by norm_num, by norm_num, by
      show Ideal.ofBits .f32 0x3F000000#32 = _
      simp [Ideal.ofBits, Ideal.ieee, -EReal.coe_mul]; norm_num⟩
  | 2 => exact ⟨(Real.sqrt 8)⁻¹, by positivity, by rw [root _ (by norm_num)]; norm_num, IdealRules.named_const.ideal_named_scalar _ _ _ _ rfl⟩
  | 3 => exact ⟨1 / 4, by norm_num, by norm_num, by
      show Ideal.ofBits .f32 0x3E800000#32 = _
      simp [Ideal.ofBits, Ideal.ieee, -EReal.coe_mul]; norm_num⟩
  | 4 => exact ⟨(Real.sqrt 32)⁻¹, by positivity, by rw [root _ (by norm_num)]; norm_num, IdealRules.named_const.ideal_named_scalar _ _ _ _ rfl⟩
  | 5 => exact ⟨1 / 8, by norm_num, by norm_num, by
      show Ideal.ofBits .f32 0x3E000000#32 = _
      simp [Ideal.ofBits, Ideal.ieee, -EReal.coe_mul]; norm_num⟩
  | 6 => exact ⟨(Real.sqrt 128)⁻¹, by positivity, by rw [root _ (by norm_num)]; norm_num, IdealRules.named_const.ideal_named_scalar _ _ _ _ rfl⟩
  | 7 => exact ⟨1 / 16, by norm_num, by norm_num, by
      show Ideal.ofBits .f32 0x3D800000#32 = _
      simp [Ideal.ofBits, Ideal.ieee, -EReal.coe_mul]; norm_num⟩

/-- The scale is one eighth. -/
theorem eighth : Ideal.ofBits .f32 0x3E000000#32 = ((1 / 8 : ℝ) : EReal) := by
  simp [Ideal.ofBits, Ideal.ieee, -EReal.coe_mul]; norm_num

variable (q : S4x8192x8x64.Idx → EReal) (k u : S4x8192x2x64.Idx → EReal) (s : S8.Idx → EReal)

/-- The padded lanes add nothing, and the scale comes out of the sum. -/
theorem keyScore_eq (b : Fin 4) (n : Fin 64) (g : Fin 2) (r : Fin 4) (i : Fin 128) (t : Fin 8192) :
    keyScore q k b n g r i t
      = (∑ d : Fin 64, k (ix4 b t g d) * q (ix4 b (tok n i) (SwaRef.hd g r) d)) * Ideal.ofBits .f32 0x3E000000#32 := by
  unfold keyScore
  rw [eighth, ← sum_mul_real _ _ _ (by norm_num) (EReal.coe_ne_top _), ← hd_eq]
  refine (Fin.sum_univ_add (a := 64) (b := 64) fun e => keyLane k b t g e * queryLane q b (tok n i) (SwaBlock.hd g r) e).trans ?_
  have hz : ∑ e : Fin 64, keyLane k b t g (Fin.natAdd 64 e) * queryLane q b (tok n i) (SwaBlock.hd g r) (Fin.natAdd 64 e) = 0 :=
    Finset.sum_eq_zero fun e _ => by
      unfold keyLane
      rw [dif_neg (by show ¬(64 + e.val < 64); omega), zero_mul]
  rw [hz, add_zero]
  refine Finset.sum_congr rfl fun e _ => ?_
  have he : (Fin.castAdd 64 e).val < 64 := e.isLt
  unfold keyLane queryLane
  rw [dif_pos he, dif_pos he, eighth, mul_assoc]
  rfl

end Cert.Proof.Swa

end
-- ==== Proof.SwaSame.lean ====
/-
  The kernel's result is the reference's where queries, keys and sinks are real numbers.
-/
module

public import proofs.«01_k».proof.Proof.SwaEq

@[expose] public section

noncomputable section

namespace Cert.Proof.Swa

open Idealize.ShloMosaic Idealize.ShloMosaic.TcCoe Idealize.SL.Sem Cert.Proof.Softmax
open Cert.Proof.SwaRef (tok tokBefore)
open Cert.KernelIdeal Cert.ReferenceIdeal.Read
open scoped BigOperators

variable (q : S4x8192x8x64.Idx → EReal) (k u : S4x8192x2x64.Idx → EReal) (s : S8.Idx → EReal)

/-- Every element of an array is a real number. -/
def AllReal {S : Shape} (x : S.Idx → EReal) : Prop := ∀ i, x i ≠ ⊤ ∧ x i ≠ ⊥

/-- The reference's logit at a key of the block before. -/
theorem ref_lo (b : Fin 4) (n : Fin 64) (g : Fin 2) (r : Fin 4) (i j : Fin 128) :
    val_main_v64 (F := Ideal) q k (ix6 b n g r i (⟨j.val, by omega⟩ : Fin 256))
      = if j ≤ i ∨ n.val = 0 then ⊥ else keyScore q k b n g r i (tokBefore n j)
          - SwaBlock.slope Ideal (SwaBlock.hd g r) * (((i.val : ℤ) - j.val + 128 : ℤ) : ℝ) := by
  rw [SwaRef.logits_apply, SwaRef.seen_lo, SwaRef.far_lo, ← hd_eq, ← (slope_eq (SwaBlock.hd g r)).1, keyScore_eq]
  by_cases h : j ≤ i ∨ n.val = 0
  · rw [if_pos h, if_pos h]; rfl
  · rw [if_neg h, if_neg h]
    have hn : ¬n.val = 0 := fun e => h (Or.inr e)
    have hs : SwaRef.score q k b n g r i (⟨j.val, by omega⟩ : Fin 256)
        = (∑ d : Fin 64, k (ix4 b (tokBefore n j) g d) * q (ix4 b (tok n i) (SwaRef.hd g r) d)) * Ideal.ofBits .f32 0x3E000000#32 := by
      unfold SwaRef.score
      refine congrArg (· * Ideal.ofBits .f32 0x3E000000#32) (Finset.sum_congr rfl fun d _ => ?_)
      rw [SwaRef.window_lo, if_neg hn]
    rw [hs]; rfl

/-- The reference's logit at a key of the block itself. -/
theorem ref_hi (b : Fin 4) (n : Fin 64) (g : Fin 2) (r : Fin 4) (i j : Fin 128) :
    val_main_v64 (F := Ideal) q k (ix6 b n g r i (⟨128 + j.val, by omega⟩ : Fin 256))
      = if j ≤ i then keyScore q k b n g r i (tok n j)
          - SwaBlock.slope Ideal (SwaBlock.hd g r) * (((i.val : ℤ) - j.val : ℤ) : ℝ) else ⊥ := by
  rw [SwaRef.logits_apply, SwaRef.seen_hi, SwaRef.far_hi, ← hd_eq, ← (slope_eq (SwaBlock.hd g r)).1, keyScore_eq]
  by_cases h : j ≤ i
  · rw [if_pos h, if_pos h]
    have hs : SwaRef.score q k b n g r i (⟨128 + j.val, by omega⟩ : Fin 256)
        = (∑ d : Fin 64, k (ix4 b (tok n j) g d) * q (ix4 b (tok n i) (SwaRef.hd g r) d)) * Ideal.ofBits .f32 0x3E000000#32 := by
      unfold SwaRef.score
      refine congrArg (· * Ideal.ofBits .f32 0x3E000000#32) (Finset.sum_congr rfl fun d _ => ?_)
      rw [SwaRef.window_hi]
    rw [hs]; rfl
  · rw [if_neg h, if_neg h]; rfl

/-- The reference's logits are the kernel's, spread over the two blocks. -/
theorem spread (hk : ∀ b n g r i t, ∃ x : ℝ, keyScore q k b n g r i t = (x : EReal)) (b : Fin 4) (n : Fin 64) (g : Fin 2) (r : Fin 4) (i : Fin 128) :
    Spread (fun j => j ≤ i) (fun kk => val_main_v64 (F := Ideal) q k (ix6 b n g r i kk)) (logit q k b n g r i) where
  lo j := by
    rw [ref_lo]
    unfold logit SwaBlock.merged edge
    by_cases h : j ≤ i
    · rw [if_pos (Or.inl h), if_pos h]
    · rw [if_neg h, if_neg h]
      by_cases hn : n.val = 0
      · rw [if_pos (Or.inr hn), if_pos hn, EReal.add_bot]
      · rw [if_neg (not_or.2 ⟨h, hn⟩), if_neg hn, add_zero]
  hi j := by
    rw [ref_hi]
    unfold logit SwaBlock.merged
    by_cases h : j ≤ i
    · rw [if_pos h, if_pos h, if_pos h]
    · rw [if_neg h, if_neg h]

/-- Scores of real queries and keys are real. -/
theorem score_real (hq : AllReal q) (hk : AllReal k) (b : Fin 4) (n : Fin 64) (g : Fin 2) (r : Fin 4) (i : Fin 128) (t : Fin 8192) :
    ∃ x : ℝ, keyScore q k b n g r i t = (x : EReal) := by
  obtain ⟨x, hx⟩ := sum_mul_coe Finset.univ (fun d : Fin 64 => k (ix4 b t g d)) (fun d => q (ix4 b (tok n i) (SwaRef.hd g r) d))
    (fun d => hk _) (fun d => hq _)
  exact ⟨x * (1 / 8), by rw [keyScore_eq, hx, eighth, EReal.coe_mul]⟩

/-- No merged logit is +∞. -/
theorem logit_ne_top (hq : AllReal q) (hk : AllReal k) (b : Fin 4) (n : Fin 64) (g : Fin 2) (r : Fin 4) (i j : Fin 128) :
    logit q k b n g r i j ≠ ⊤ := by
  obtain ⟨sl, hsl⟩ := (slope_eq (SwaBlock.hd g r)).2
  unfold logit SwaBlock.merged edge
  dsimp only
  obtain ⟨x, hx⟩ := score_real q k hq hk b n g r i (tok n j)
  obtain ⟨y, hy⟩ := score_real q k hq hk b n g r i (tokBefore n j)
  rw [hx, hy, hsl]
  split_ifs
  · rw [← EReal.coe_mul, ← EReal.coe_sub]; exact EReal.coe_ne_top _
  · rw [EReal.add_bot]; exact bot_ne_top
  · rw [← EReal.coe_mul, ← EReal.coe_sub, add_zero]; exact EReal.coe_ne_top _

/-- The kernel's block is the reference's attention. -/
theorem blockOf_eq (hq : AllReal q) (hk : AllReal k) (hs : AllReal s) (b : Fin 4) (n : Fin 64) (g : Fin 2) (r : Fin 4) (i : Fin 128) (d : Fin 64) :
    blockOf q k u s b n g r i d
      = attend (fun kk => val_main_v64 (F := Ideal) q k (ix6 b n g r i kk)) (s (ix1 (SwaRef.hd g r)))
        (fun kk => val_main_v15 (F := Ideal) u (ix5 b n kk g d)) := by
  have hd : den (logit q k b n g r i) (s (ix1 (SwaRef.hd g r))) ≠ 0 :=
    den_ne_zero _ _ (logit_ne_top q k hq hk b n g r i) (hs _).2 (hs _).1
  rw [(spread q k (score_real q k hq hk) b n g r i).attend_eq _ hd]
  unfold blockOf
  rw [hd_eq]
  refine Finset.sum_congr rfl fun j _ => ?_
  rw [SwaRef.window_lo, SwaRef.window_hi]
  by_cases hn : n.val = 0
  · rw [if_pos hn]
    by_cases h : j ≤ i
    · rw [if_pos h, mul_zero, mul_zero]
    · have hb : logit q k b n g r i j = ⊥ := by
        unfold logit SwaBlock.merged edge
        rw [if_neg h, if_pos hn, EReal.add_bot]
      rw [if_neg h, prob_bot _ j hd hb, mul_zero, mul_zero]
  · rw [if_neg hn]

/-- The two results are one array. -/
theorem result_eq (hq : AllReal q) (hk : AllReal k) (hs : AllReal s) :
    resultOf q k u s = (val_main_v85 (F := Ideal) q k u s : S4x8192x512.Idx → EReal) := by
  funext x
  have h1 : (x 1).val < 8192 := (x 1).isLt
  have h2 : (x 2).val < 512 := (x 2).isLt
  have hx : x = ix3 (x 0) (x 1) (x 2) := funext fun a => by
    match a with
    | ⟨0, _⟩ => rfl
    | ⟨1, _⟩ => rfl
    | ⟨2, _⟩ => rfl
  have ht : x 1 = tok (⟨(x 1).val / 128, by omega⟩ : Fin 64) ⟨(x 1).val % 128, by omega⟩ := Fin.ext (by
    show (x 1).val = (x 1).val / 128 * 128 + (x 1).val % 128; omega)
  rw [hx]
  refine (resultOf_apply q k u s (x 0) (⟨(x 1).val / 128, by omega⟩ : Fin 64) (⟨(x 2).val / 256, by omega⟩ : Fin 2)
    (⟨(x 2).val / 64 % 4, by omega⟩ : Fin 4) (⟨(x 1).val % 128, by omega⟩ : Fin 128) (⟨(x 2).val % 64, by omega⟩ : Fin 64) (x 1) (x 2)
    ht ?_).trans ((blockOf_eq q k u s hq hk hs _ _ _ _ _ _).trans (SwaRef.result_apply q k u s (x 0) _ _ _ _ _ (x 1) (x 2) ht ?_).symm)
  · show (x 2).val = 64 * (4 * ((x 2).val / 256) + (x 2).val / 64 % 4) + (x 2).val % 64; omega
  · show (x 2).val = 64 * ((x 2).val / 256 * 4 + (x 2).val / 64 % 4) + (x 2).val % 64; omega

end Cert.Proof.Swa

end
-- ==== Proof.SwaPre.lean ====
/-
  What the precondition of the sliding-window claim says of the arguments.
-/
module

public import proofs.«01_k».proof.Pre_finite
public import Idealize.ShloMosaic.Lib.ReduceAll
public import Idealize.ShloMosaic.Lib.Pipeline.ValueKit
public import proofs.«01_k».proof.Proof.Softmax

@[expose] public section

noncomputable section

namespace Cert.Proof.Swa

open Idealize.ShloMosaic Cert.Pre_finite

/-- The bound is +∞. -/
theorem top_bits : Ideal.ofBits .f32 0x7F800000#32 = (⊤ : EReal) := by simp [Ideal.ofBits, Ideal.ieee]

/-- An extended real whose magnitude is below +∞ is a real number. -/
theorem real_of_abs (x : EReal) (h : Ideal.cmp .olt (max x (-x)) (Ideal.ofBits .f32 0x7F800000#32) = 1#1) : x ≠ ⊤ ∧ x ≠ ⊥ := by
  rw [top_bits] at h
  constructor
  · rintro rfl
    simp [Ideal.cmp] at h
  · rintro rfl
    simp [Ideal.cmp] at h

variable [Facts]

/-- The precondition says that queries, keys and sinks are real numbers. -/
theorem fn_real (a0 : S4x8192x8x64.Idx → EReal) (a1 a2 : S4x8192x2x64.Idx → EReal) (a3 : S8.Idx → EReal)
    (h : fn (F := Ideal) a0 a1 a2 a3 = fun _ => 1#1) :
    (∀ i, a0 i ≠ ⊤ ∧ a0 i ≠ ⊥) ∧ (∀ i, a1 i ≠ ⊤ ∧ a1 i ≠ ⊥) ∧ (∀ i, a3 i ≠ ⊤ ∧ a3 i ≠ ⊥) := by
  have h0 := congrFun h (Shape.Idx.first Facts.h_S_)
  dsimp only [fn] at h0
  obtain ⟨h01, h3⟩ := IntOp.andi_eq_one.1 h0
  obtain ⟨h0, h1⟩ := IntOp.andi_eq_one.1 h01
  haveI : Subsingleton S_.Idx := ⟨fun a b => funext fun i => i.elim0⟩
  refine ⟨fun i => ?_, fun i => ?_, fun i => ?_⟩
  · exact real_of_abs _ (Host.reduce_andi_all _ _ _ _ _ h0 i)
  · exact real_of_abs _ (Host.reduce_andi_all _ _ _ _ _ h1 i)
  · exact real_of_abs _ (Host.reduce_andi_all _ _ _ _ _ h3 i)

end Cert.Proof.Swa

end
-- ==== Proof.Swa.lean ====
/-
  The sliding-window attention call: the array the kernel leaves is the reference's, wherever queries, keys and sinks are
  real numbers.
-/
module

public import proofs.«01_k».proof.Proof.SwaArr
public import proofs.«01_k».proof.Proof.SwaSame
public import proofs.«01_k».proof.Proof.SwaPre
public import proofs.«01_k».proof.Proof.Gen.Pre_finite
public import proofs.«01_k».proof.Defs

@[expose] public section

noncomputable section

namespace Cert.Proof.Swa

open Idealize.ShloMosaic Idealize.ShloMosaic.TcCoe Idealize.SL.Sem

/-- The value claim of the attention call: kernel and reference end with equal arrays. -/
theorem value : Cert.algebraic_KernelIdeal_ReferenceIdeal_pre_finite := by
  intro m g m' g' hpre hagree
  refine ⟨fun c => result m c, (θ_run _ _ _).mono (fun _ h c => ?_) (Cert.KernelIdeal.Value.run_blocks m g),
    (θ_run _ _ _).mono (fun _ h c => ?_) (Cert.ReferenceIdeal.Value.run m' g')⟩
  · exact ⟨(h c).1.trans (final m c), (h c).2⟩
  · refine ⟨(h c).1.trans ?_, (h c).2⟩
    rw [Cert.ReferenceIdeal.Read.val_main_v85_eq, (hagree c).1, (hagree c).2.1, (hagree c).2.2.1, (hagree c).2.2.2]
    obtain ⟨hq, hk, hs⟩ := fn_real _ _ _ _ (hpre c)
    exact (result_eq _ _ _ _ hq hk hs).symm

end Cert.Proof.Swa

end
-- ==== Proof.lean ====
/-
  The certificate: every program's frame, the idealizations, and the value claims of the calls, each proved in its own
  module, put together behind the witnesses of the programs' stated facts.
-/
module

public import proofs.«01_k».proof.Defs
public import proofs.«01_k».proof.Proof.Ffn
public import proofs.«01_k».proof.Proof.Merge
public import proofs.«01_k».proof.Proof.Ple
public import proofs.«01_k».proof.Proof.Proj
public import proofs.«01_k».proof.Proof.Swa
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference `ReferenceIdeal` terminates and leaves its arguments unchanged; it has no semaphores. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference `Reference2Ideal` terminates and leaves its arguments unchanged; it has no semaphores. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference `Reference3Ideal` terminates and leaves its arguments unchanged; it has no semaphores. -/
theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference `Reference4Ideal` terminates and leaves its arguments unchanged; it has no semaphores. -/
theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference `Reference5Ideal` terminates and leaves its arguments unchanged; it has no semaphores. -/
theorem frame_Reference5Ideal : Cert.quiescent_Reference5Ideal := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

/-- The named constants of the sliding-window call: the mask is −∞, the odd slopes are the roots they round. -/
theorem preserves_swa : Cert.preserves_Kernel_KernelIdeal :=
  ⟨IdealRules.named_const.statement Cert.KernelIdeal.κ "neg" .f32 0xF149F2CA#32 ⊥ rfl,
    IdealRules.named_const.statement Cert.KernelIdeal.κ "slope1" .f32 0x3F3504F3#32 (((Real.sqrt 2)⁻¹ : ℝ) : EReal) rfl,
    IdealRules.named_const.statement Cert.KernelIdeal.κ "slope3" .f32 0x3EB504F3#32 (((Real.sqrt 8)⁻¹ : ℝ) : EReal) rfl,
    IdealRules.named_const.statement Cert.KernelIdeal.κ "slope5" .f32 0x3E3504F3#32 (((Real.sqrt 32)⁻¹ : ℝ) : EReal) rfl,
    IdealRules.named_const.statement Cert.KernelIdeal.κ "slope7" .f32 0x3DB504F3#32 (((Real.sqrt 128)⁻¹ : ℝ) : EReal) rfl⟩

/-- The same under the precondition of the value claim. -/
theorem frame_ReferenceIdeal_finite : Cert.quiescent_ReferenceIdeal_pre_finite := fun m ρ _ =>
  frame_ReferenceIdeal m ρ trivial

/-- Everything certified, together. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
    fun m ρ _ => Cert.Kernel.Gen.frame m ρ, fun m ρ _ => Cert.KernelIdeal.Gen.frame m ρ, fun m ρ _ => Cert.KernelIdeal.Gen.frame m ρ, frame_ReferenceIdeal, frame_ReferenceIdeal_finite, fun m ρ _ => Cert.Kernel2.Gen.frame m ρ, fun m ρ _ => Cert.Kernel2Ideal.Gen.frame m ρ, frame_Reference2Ideal, fun m ρ _ => Cert.Kernel3.Gen.frame m ρ, fun m ρ _ => Cert.Kernel3Ideal.Gen.frame m ρ, frame_Reference3Ideal, fun m ρ _ => Cert.Kernel4.Gen.frame m ρ, fun m ρ _ => Cert.Kernel4Ideal.Gen.frame m ρ, frame_Reference4Ideal, fun m ρ _ => Cert.Kernel5.Gen.frame m ρ, fun m ρ _ => Cert.Kernel5Ideal.Gen.frame m ρ, frame_Reference5Ideal,
    preserves_swa, Swa.value, trivial, Ffn.value, trivial, Merge.value, trivial, Ple.value, trivial, Proj.value⟩

end Cert.Proof

end
